-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pairs_fit_KernelIdeal [hPre_pairs_fit_KernelIdeal : Cert.Pre_pairs_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pairs_fit_ReferenceIdeal [hPre_pairs_fit_ReferenceIdeal : Cert.Pre_pairs_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pairs_fit_KernelIdeal [hKernelIdeal : Cert.KernelIdeal.Facts] [hPre_pairs_fit_KernelIdeal : Cert.Pre_pairs_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pairs_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pairs_fit_ReferenceIdeal [hReferenceIdeal : Cert.ReferenceIdeal.Facts] [hPre_pairs_fit_ReferenceIdeal : Cert.Pre_pairs_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pairs_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pairs_fit_KernelIdeal [hKernelIdeal : Cert.KernelIdeal.Facts] [hReferenceIdeal : Cert.ReferenceIdeal.Facts] [hPre_pairs_fit_KernelIdeal : Cert.Pre_pairs_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pairs_fit_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pairs_fit_KernelIdeal : Cert.Pre_pairs_fit_KernelIdeal.Facts) (hPre_pairs_fit_ReferenceIdeal : Cert.Pre_pairs_fit_ReferenceIdeal.Facts),
    quiescent_Kernel (hKernel := hKernel)
    ∧ quiescent_KernelIdeal (hKernelIdeal := hKernelIdeal)
    ∧ quiescent_KernelIdeal_pre_pairs_fit_KernelIdeal (hKernelIdeal := hKernelIdeal) (hPre_pairs_fit_KernelIdeal := hPre_pairs_fit_KernelIdeal)
    ∧ quiescent_ReferenceIdeal (hReferenceIdeal := hReferenceIdeal)
    ∧ quiescent_ReferenceIdeal_pre_pairs_fit_ReferenceIdeal (hReferenceIdeal := hReferenceIdeal) (hPre_pairs_fit_ReferenceIdeal := hPre_pairs_fit_ReferenceIdeal)
    ∧ preserves_Kernel_KernelIdeal
    ∧ algebraic_KernelIdeal_ReferenceIdeal_pre_pairs_fit_KernelIdeal (hKernelIdeal := hKernelIdeal) (hReferenceIdeal := hReferenceIdeal) (hPre_pairs_fit_KernelIdeal := hPre_pairs_fit_KernelIdeal)
-- ==== Pre_pairs_fit_KernelIdeal.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S8x256x8x8 : Shape := ⟨4, ![8, 256, 8, 8]⟩
abbrev S8x8 : Shape := ⟨2, ![8, 8]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  bcast_S_S_ : S_.BroadcastsInDim S_ (![] : Fin 0 → Fin S_.rank)
  reduceWindows_S2048x64_S2048x64_w2048s1p2047_0_w1s1p0_0 : S2048x64.ReduceWindows (![2048, 1] : Fin 2 → Nat) ![1, 1] ![2047, 0] ![0, 0] S2048x64
  h_S_ : 0 < S_.numel
  bcast_S_S2048x64 : S_.BroadcastsInDim S2048x64 (![] : Fin 0 → Fin S2048x64.rank)
  shapeCasts_S2048x64_S8x256x8x8 : S2048x64.ShapeCasts S8x256x8x8
  reducesTo_S8x256x8x8_S8x8_d1_3 : S8x256x8x8.ReducesTo [1, 3] S8x8
  bcast_S_S8x8 : S_.BroadcastsInDim S8x8 (![] : Fin 0 → Fin S8x8.rank)
  reducesTo_S8x8_S_d0_1 : S8x8.ReducesTo [0, 1] S_

variable [Facts]

def fn_cumsum_0 {F : FTy → Type} [FloatOps F] (arg0 : IVec S2048x64 32) : IVec S2048x64 32 :=
  let c : IVec S_ 32 := constantI S_ 32 0#32
  let v0 : IVec S_ 32 := broadcastInDim S_ ![] bcast_S_S_ c
  let v1 : IVec S2048x64 32 := (fun x v => Host.reduceWindow IntOp.addi ![2048, 1] ![1, 1] ![2047, 0] ![0, 0] x v reduceWindows_S2048x64_S2048x64_w2048s1p2047_0_w1s1p0_0 h_S_) arg0 v0
  v1

def fn_cumsum {F : FTy → Type} [FloatOps F] (arg0 : IVec S2048x64 32) : IVec S2048x64 32 :=
  let v0 : IVec S2048x64 32 := fn_cumsum_0 (F := F) arg0
  v0

def fn {F : FTy → Type} [FloatOps F] (main_arg0 : FVec F S2048x1024 .bf16) (main_arg1 : FVec F S1024x64 .bf16) (main_arg2 : IVec S2048x1 32) (main_arg3 : FVec F S8x1024x1024 .bf16) : IVec S_ 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : IVec S2048x64 32 := (extui 32 · natLt_1_32) main_v4
  let main_v6 : IVec S2048x64 32 := fn_cumsum (F := F) main_v5
  let main_c : IVec S_ 32 := constantI S_ 32 25#32
  let main_v7 : IVec S2048x64 32 := broadcastInDim S2048x64 ![] bcast_S_S2048x64 main_c
  let main_v8 : IVec S2048x64 1 := cmpi .sle main_v6 main_v7
  let main_v9 : IVec S2048x64 1 := andi main_v4 main_v8
  let main_v10 : IVec S2048x64 32 := (extui 32 · natLt_1_32) main_v9
  let main_v11 : IVec S8x256x8x8 32 := shapeCast S8x256x8x8 main_v10 shapeCasts_S2048x64_S8x256x8x8
  let main_c_0 : IVec S_ 32 := constantI S_ 32 0#32
  let main_v12 : IVec S8x8 32 := (fun x v => Host.reduce IntOp.addi x v reducesTo_S8x256x8x8_S8x8_d1_3 h_S_) main_v11 main_c_0
  let main_c_1 : IVec S_ 32 := constantI S_ 32 64#32
  let main_v13 : IVec S8x8 32 := broadcastInDim S8x8 ![] bcast_S_S8x8 main_c_1
  let main_v14 : IVec S8x8 1 := cmpi .sle main_v12 main_v13
  let main_c_2 : IVec S_ 1 := constantI S_ 1 1#1
  let main_v15 : IVec S_ 1 := (fun x v => Host.reduce IntOp.andi x v reducesTo_S8x8_S_d0_1 h_S_) main_v14 main_c_2
  main_v15
-- ==== Pre_pairs_fit_ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S8x256x8x8 : Shape := ⟨4, ![8, 256, 8, 8]⟩
abbrev S8x8 : Shape := ⟨2, ![8, 8]⟩

class Facts : Prop where
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  natLt_1_32 : 1 < 32
  bcast_S_S_ : S_.BroadcastsInDim S_ (![] : Fin 0 → Fin S_.rank)
  reduceWindows_S2048x64_S2048x64_w2048s1p2047_0_w1s1p0_0 : S2048x64.ReduceWindows (![2048, 1] : Fin 2 → Nat) ![1, 1] ![2047, 0] ![0, 0] S2048x64
  h_S_ : 0 < S_.numel
  bcast_S_S2048x64 : S_.BroadcastsInDim S2048x64 (![] : Fin 0 → Fin S2048x64.rank)
  shapeCasts_S2048x64_S8x256x8x8 : S2048x64.ShapeCasts S8x256x8x8
  reducesTo_S8x256x8x8_S8x8_d1_3 : S8x256x8x8.ReducesTo [1, 3] S8x8
  bcast_S_S8x8 : S_.BroadcastsInDim S8x8 (![] : Fin 0 → Fin S8x8.rank)
  reducesTo_S8x8_S_d0_1 : S8x8.ReducesTo [0, 1] S_

variable [Facts]

def fn_cumsum_0 {F : FTy → Type} [FloatOps F] (arg0 : IVec S2048x64 32) : IVec S2048x64 32 :=
  let c : IVec S_ 32 := constantI S_ 32 0#32
  let v0 : IVec S_ 32 := broadcastInDim S_ ![] bcast_S_S_ c
  let v1 : IVec S2048x64 32 := (fun x v => Host.reduceWindow IntOp.addi ![2048, 1] ![1, 1] ![2047, 0] ![0, 0] x v reduceWindows_S2048x64_S2048x64_w2048s1p2047_0_w1s1p0_0 h_S_) arg0 v0
  v1

def fn_cumsum {F : FTy → Type} [FloatOps F] (arg0 : IVec S2048x64 32) : IVec S2048x64 32 :=
  let v0 : IVec S2048x64 32 := fn_cumsum_0 (F := F) arg0
  v0

def fn {F : FTy → Type} [FloatOps F] (main_arg0 : FVec F S2048x1024 .bf16) (main_arg1 : FVec F S1024x64 .bf16) (main_arg2 : IVec S2048x1 32) (main_arg3 : FVec F S64x1024x1024 .bf16) : IVec S_ 1 :=
  let main_v0 : IVec S64 32 := iotaInDim S64 32 0
  let main_v1 : IVec S1x64 32 := broadcastInDim S1x64 ![1] bcast_S64_S1x64_1 main_v0
  let main_v2 : IVec S2048x64 32 := broadcastInDim S2048x64 ![0, 1] bcast_S2048x1_S2048x64_0_1 main_arg2
  let main_v3 : IVec S2048x64 32 := broadcastInDim S2048x64 ![0, 1] bcast_S1x64_S2048x64_0_1 main_v1
  let main_v4 : IVec S2048x64 1 := cmpi .eq main_v2 main_v3
  let main_v5 : IVec S2048x64 32 := (extui 32 · natLt_1_32) main_v4
  let main_v6 : IVec S2048x64 32 := fn_cumsum (F := F) main_v5
  let main_c : IVec S_ 32 := constantI S_ 32 25#32
  let main_v7 : IVec S2048x64 32 := broadcastInDim S2048x64 ![] bcast_S_S2048x64 main_c
  let main_v8 : IVec S2048x64 1 := cmpi .sle main_v6 main_v7
  let main_v9 : IVec S2048x64 1 := andi main_v4 main_v8
  let main_v10 : IVec S2048x64 32 := (extui 32 · natLt_1_32) main_v9
  let main_v11 : IVec S8x256x8x8 32 := shapeCast S8x256x8x8 main_v10 shapeCasts_S2048x64_S8x256x8x8
  let main_c_0 : IVec S_ 32 := constantI S_ 32 0#32
  let main_v12 : IVec S8x8 32 := (fun x v => Host.reduce IntOp.addi x v reducesTo_S8x256x8x8_S8x8_d1_3 h_S_) main_v11 main_c_0
  let main_c_1 : IVec S_ 32 := constantI S_ 32 64#32
  let main_v13 : IVec S8x8 32 := broadcastInDim S8x8 ![] bcast_S_S8x8 main_c_1
  let main_v14 : IVec S8x8 1 := cmpi .sle main_v12 main_v13
  let main_c_2 : IVec S_ 1 := constantI S_ 1 1#1
  let main_v15 : IVec S_ 1 := (fun x v => Host.reduce IntOp.andi x v reducesTo_S8x8_S_d0_1 h_S_) main_v14 main_c_2
  main_v15
-- ==== Kernel.lean ====
abbrev S2048x1024 : Shape := ⟨2, ![2048, 1024]⟩
abbrev S1024x64 : Shape := ⟨2, ![1024, 64]⟩
abbrev S2048x1 : Shape := ⟨2, ![2048, 1]⟩
abbrev S8x1024x1024 : Shape := ⟨3, ![8, 1024, 1024]⟩
abbrev S256x1024 : Shape := ⟨2, ![256, 1024]⟩
abbrev S2048x8 : Shape := ⟨2, ![2048, 8]⟩
abbrev S8x64x1024 : Shape := ⟨3, ![8, 64, 1024]⟩
abbrev S8 : Shape := ⟨1, ![8]⟩
abbrev S_ : Shape := ⟨0, ![]⟩
abbrev S256x256 : Shape := ⟨2, ![256, 256]⟩
abbrev S2048x64 : Shape := ⟨2, ![2048, 64]⟩
abbrev S8x2048 : Shape := ⟨2, ![8, 2048]⟩
abbrev S8x64 : Shape := ⟨2, ![8, 64]⟩
abbrev S8x8 : Shape := ⟨2, ![8, 8]⟩
abbrev S256x64 : Shape := ⟨2, ![256, 64]⟩
abbrev S1x64 : Shape := ⟨2, ![1, 64]⟩
abbrev S256 : Shape := ⟨1, ![256]⟩
abbrev S256x1 : Shape := ⟨2, ![256, 1]⟩
abbrev S2048x256 : Shape := ⟨2, ![2048, 256]⟩
abbrev S32x1024 : Shape := ⟨2, ![32, 1024]⟩
abbrev S1x1024x1024 : Shape := ⟨3, ![1, 1024, 1024]⟩
abbrev S1024x1024 : Shape := ⟨2, ![1024, 1024]⟩
abbrev S256x8 : Shape := ⟨2, ![256, 8]⟩
abbrev S64x1024 : Shape := ⟨2, ![64, 1024]⟩
abbrev S1x64x1024 : Shape := ⟨3, ![1, 64, 1024]⟩
abbrev S1 : Shape := ⟨1, ![1]⟩

abbrev nBuf : Space → Nat
  | .hbm => 5
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1, .i32⟩
  | .hbm, ⟨3, _⟩ => ⟨S8x1024x1024, .bf16⟩
  | .hbm, ⟨4, _⟩ => ⟨S256x1024, .f32⟩
  | .local _ .vmem, ⟨0, _⟩ => ⟨S2048x1, .i32⟩
  | .local _ .vmem, ⟨1, _⟩ => ⟨S2048x1024, .bf16⟩
  | .local _ .vmem, ⟨2, _⟩ => ⟨S8x1024x1024, .bf16⟩
  | .local _ .vmem, ⟨3, _⟩ => ⟨S256x1024, .f32⟩
  | .local _ .vmem, ⟨4, _⟩ => ⟨S2048x1024, .bf16⟩
  | .local _ .vmem, ⟨5, _⟩ => ⟨S256x1024, .f32⟩
  | .local _ .vmem, ⟨6, _⟩ => ⟨S256x1024, .bf16⟩
  | .local _ .vmem, ⟨7, _⟩ => ⟨S2048x1, .i32⟩
  | .local _ .vmem, ⟨8, _⟩ => ⟨S2048x8, .bf16⟩
  | .local _ .vmem, ⟨9, _⟩ => ⟨S2048x1, .i32⟩
  | .local _ .vmem, ⟨10, _⟩ => ⟨S2048x1, .i32⟩
  | .local _ .vmem, ⟨11, _⟩ => ⟨S8x64x1024, .bf16⟩
  | .local _ .vmem, ⟨12, _⟩ => ⟨S8x64x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_349 : BitVec 32 := 0#32
  let c0_i32_347 : BitVec 32 := 0#32
  let c1_i32_348 : BitVec 32 := 1#32
  let v857 : BitVec 32 := Scalar.muli c0_i32_347 c1_i32_348
  let v858 : BitVec 32 := Scalar.addi c0_i32_349 v857
  v858.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_349 : BitVec 32 := 0#32
  let c1_i32_347 : BitVec 32 := 1#32
  let c1_i32_348 : BitVec 32 := 1#32
  let v857 : BitVec 32 := Scalar.muli c1_i32_347 c1_i32_348
  let v858 : BitVec 32 := Scalar.addi c0_i32_349 v857
  v858.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_349 : BitVec 32 := 0#32
  let c2_i32_347 : BitVec 32 := 2#32
  let c1_i32_348 : BitVec 32 := 1#32
  let v857 : BitVec 32 := Scalar.muli c2_i32_347 c1_i32_348
  let v858 : BitVec 32 := Scalar.addi c0_i32_349 v857
  v858.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_349 : BitVec 32 := 0#32
  let c3_i32_347 : BitVec 32 := 3#32
  let c1_i32_348 : BitVec 32 := 1#32
  let v857 : BitVec 32 := Scalar.muli c3_i32_347 c1_i32_348
  let v858 : BitVec 32 := Scalar.addi c0_i32_349 v857
  v858.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_349 : BitVec 32 := 0#32
  let c4_i32_347 : BitVec 32 := 4#32
  let c1_i32_348 : BitVec 32 := 1#32
  let v857 : BitVec 32 := Scalar.muli c4_i32_347 c1_i32_348
  let v858 : BitVec 32 := Scalar.addi c0_i32_349 v857
  v858.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_349 : BitVec 32 := 0#32
  let c5_i32_347 : BitVec 32 := 5#32
  let c1_i32_348 : BitVec 32 := 1#32
  let v857 : BitVec 32 := Scalar.muli c5_i32_347 c1_i32_348
  let v858 : BitVec 32 := Scalar.addi c0_i32_349 v857
  v858.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_349 : BitVec 32 := 0#32
  let c6_i32_347 : BitVec 32 := 6#32
  let c1_i32_348 : BitVec 32 := 1#32
  let v857 : BitVec 32 := Scalar.muli c6_i32_347 c1_i32_348
  let v858 : BitVec 32 := Scalar.addi c0_i32_349 v857
  v858.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_349 : BitVec 32 := 0#32
  let c7_i32_347 : BitVec 32 := 7#32
  let c1_i32_348 : BitVec 32 := 1#32
  let v857 : BitVec 32 := Scalar.muli c7_i32_347 c1_i32_348
  let v858 : BitVec 32 := Scalar.addi c0_i32_349 v857
  v858.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_135 : BitVec 32 := 0#32
  let v365 : BitVec 1 := Scalar.cmpi .ne v2 c0_i32_135
  let v366 : BitVec 32 := Scalar.extui v365
  let c0_i32_136 : BitVec 32 := 0#32
  let v367 : BitVec 1 := Scalar.cmpi .ne v366 c0_i32_136
  v367

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev9 : Nat :=
  let c0_i32_353 : BitVec 32 := 0#32
  let c0_i32_351 : BitVec 32 := 0#32
  let c1_i32_352 : BitVec 32 := 1#32
  let v860 : BitVec 32 := Scalar.muli c0_i32_351 c1_i32_352
  let v861 : BitVec 32 := Scalar.addi c0_i32_353 v860
  v861.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let v408 : BitVec 1 := Scalar.cmpi .ne v2 c1_i32_153
  let v409 : BitVec 32 := Scalar.extui v408
  let c0_i32_154 : BitVec 32 := 0#32
  let v410 : BitVec 1 := Scalar.cmpi .ne v409 c0_i32_154
  v410

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev10 : Nat :=
  let c0_i32_353 : BitVec 32 := 0#32
  let c1_i32_351 : BitVec 32 := 1#32
  let c1_i32_352 : BitVec 32 := 1#32
  let v860 : BitVec 32 := Scalar.muli c1_i32_351 c1_i32_352
  let v861 : BitVec 32 := Scalar.addi c0_i32_353 v860
  v861.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_171 : BitVec 32 := 2#32
  let v451 : BitVec 1 := Scalar.cmpi .ne v2 c2_i32_171
  let v452 : BitVec 32 := Scalar.extui v451
  let c0_i32_172 : BitVec 32 := 0#32
  let v453 : BitVec 1 := Scalar.cmpi .ne v452 c0_i32_172
  v453

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev11 : Nat :=
  let c0_i32_353 : BitVec 32 := 0#32
  let c2_i32_351 : BitVec 32 := 2#32
  let c1_i32_352 : BitVec 32 := 1#32
  let v860 : BitVec 32 := Scalar.muli c2_i32_351 c1_i32_352
  let v861 : BitVec 32 := Scalar.addi c0_i32_353 v860
  v861.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_189 : BitVec 32 := 3#32
  let v494 : BitVec 1 := Scalar.cmpi .ne v2 c3_i32_189
  let v495 : BitVec 32 := Scalar.extui v494
  let c0_i32_190 : BitVec 32 := 0#32
  let v496 : BitVec 1 := Scalar.cmpi .ne v495 c0_i32_190
  v496

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev12 : Nat :=
  let c0_i32_353 : BitVec 32 := 0#32
  let c3_i32_351 : BitVec 32 := 3#32
  let c1_i32_352 : BitVec 32 := 1#32
  let v860 : BitVec 32 := Scalar.muli c3_i32_351 c1_i32_352
  let v861 : BitVec 32 := Scalar.addi c0_i32_353 v860
  v861.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_207 : BitVec 32 := 4#32
  let v537 : BitVec 1 := Scalar.cmpi .ne v2 c4_i32_207
  let v538 : BitVec 32 := Scalar.extui v537
  let c0_i32_208 : BitVec 32 := 0#32
  let v539 : BitVec 1 := Scalar.cmpi .ne v538 c0_i32_208
  v539

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev13 : Nat :=
  let c0_i32_353 : BitVec 32 := 0#32
  let c4_i32_351 : BitVec 32 := 4#32
  let c1_i32_352 : BitVec 32 := 1#32
  let v860 : BitVec 32 := Scalar.muli c4_i32_351 c1_i32_352
  let v861 : BitVec 32 := Scalar.addi c0_i32_353 v860
  v861.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_225 : BitVec 32 := 5#32
  let v580 : BitVec 1 := Scalar.cmpi .ne v2 c5_i32_225
  let v581 : BitVec 32 := Scalar.extui v580
  let c0_i32_226 : BitVec 32 := 0#32
  let v582 : BitVec 1 := Scalar.cmpi .ne v581 c0_i32_226
  v582

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev14 : Nat :=
  let c0_i32_353 : BitVec 32 := 0#32
  let c5_i32_351 : BitVec 32 := 5#32
  let c1_i32_352 : BitVec 32 := 1#32
  let v860 : BitVec 32 := Scalar.muli c5_i32_351 c1_i32_352
  let v861 : BitVec 32 := Scalar.addi c0_i32_353 v860
  v861.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_243 : BitVec 32 := 6#32
  let v623 : BitVec 1 := Scalar.cmpi .ne v2 c6_i32_243
  let v624 : BitVec 32 := Scalar.extui v623
  let c0_i32_244 : BitVec 32 := 0#32
  let v625 : BitVec 1 := Scalar.cmpi .ne v624 c0_i32_244
  v625

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev15 : Nat :=
  let c0_i32_353 : BitVec 32 := 0#32
  let c6_i32_351 : BitVec 32 := 6#32
  let c1_i32_352 : BitVec 32 := 1#32
  let v860 : BitVec 32 := Scalar.muli c6_i32_351 c1_i32_352
  let v861 : BitVec 32 := Scalar.addi c0_i32_353 v860
  v861.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_261 : BitVec 32 := 7#32
  let v666 : BitVec 1 := Scalar.cmpi .ne v2 c7_i32_261
  let v667 : BitVec 32 := Scalar.extui v666
  let c0_i32_262 : BitVec 32 := 0#32
  let v668 : BitVec 1 := Scalar.cmpi .ne v667 c0_i32_262
  v668

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_354 : BitVec 32 := 0#32
  let c0_i32_355 : BitVec 32 := 0#32
  ![v2.toNat, 0, 0]
def k0_dev16 : Nat :=
  let c0_i32_353 : BitVec 32 := 0#32
  let c7_i32_351 : BitVec 32 := 7#32
  let c1_i32_352 : BitVec 32 := 1#32
  let v860 : BitVec 32 := Scalar.muli c7_i32_351 c1_i32_352
  let v861 : BitVec 32 := Scalar.addi c0_i32_353 v860
  v861.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_279 : BitVec 32 := 256#32
  let v693 : BitVec 32 := Scalar.muli v2 c256_i32_279
  let v694 : Index := Scalar.indexCast v693
  let c0_280 : Index := 0#32
  ![v694.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_279 : BitVec 32 := 256#32
  let v693 : BitVec 32 := Scalar.muli v2 c256_i32_279
  let v702 : Index := Scalar.indexCast v693
  let c0_283 : Index := 0#32
  ![v702.toNat, 0]
abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x1 : Shape := ⟨2, ![2048, 1]⟩
abbrev S64x1024x1024 : Shape := ⟨3, ![64, 1024, 1024]⟩
abbrev S2048x64x1024 : Shape := ⟨3, ![2048, 64, 1024]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S2048x64x1 : Shape := ⟨3, ![2048, 64, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x64, .bf16⟩
  | .hbm, ⟨2, _⟩ => ⟨S2048x1, .i32⟩
  | .hbm, ⟨3, _⟩ => ⟨S64x1024x1024, .bf16⟩
  | .hbm, ⟨4, _⟩ => ⟨S2048x64x1024, .f32⟩
  | .hbm, ⟨5, _⟩ => ⟨S64, .i32⟩
  | .hbm, ⟨6, _⟩ => ⟨S1x64, .i32⟩
  | .hbm, ⟨7, _⟩ => ⟨S2048x64, .i32⟩
  | .hbm, ⟨8, _⟩ => ⟨S2048x64, .i32⟩
  | .hbm, ⟨9, _⟩ => ⟨S2048x64, .i1⟩
  | .hbm, ⟨10, _⟩ => ⟨S2048x64, .i32⟩
  | .hbm, ⟨11, _⟩ => ⟨S_, .i32⟩
  | .hbm, ⟨12, _⟩ => ⟨S_, .i32⟩
  | .hbm, ⟨13, _⟩ => ⟨S2048x64, .i32⟩
  | .hbm, ⟨14, _⟩ => ⟨S_, .i32⟩
  | .hbm, ⟨15, _⟩ => ⟨S2048x64, .i32⟩
  | .hbm, ⟨16, _⟩ => ⟨S2048x64, .i1⟩
  | .hbm, ⟨17, _⟩ => ⟨S2048x64, .i1⟩
  | .hbm, ⟨18, _⟩ => ⟨S2048x64x1, .i1⟩
  | .hbm, ⟨19, _⟩ => ⟨S_, .f32⟩
  | .hbm, ⟨20, _⟩ => ⟨S_, .f32⟩
  | .hbm, ⟨21, _⟩ => ⟨S2048x64x1024, .i1⟩
  | .hbm, ⟨22, _⟩ => ⟨S2048x64x1024, .f32⟩
  | .hbm, ⟨23, _⟩ => ⟨S2048x64x1024, .f32⟩
  | .hbm, ⟨24, _⟩ => ⟨S_, .f32⟩
  | .hbm, ⟨25, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_c : Ref sig .tc := ⟨.hbm, 11, rfl⟩
abbrev main_call0_call0_v0 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.KernelIdealProtocol.lean ====
/-
The kernel's protocol on eight devices. Every device tells every other one on the barrier semaphore that its receive
buffer may be written (handing over, with the signal, the slot the other device will write), then writes one block into
each other device's receive buffer, at the slot of its own number.

Cells of device `c`: the barrier, with one duty for each other device; the receive semaphore of slot `s`, with one duty
for device `s`; the send semaphore of slot `b`, with one duty for `c` itself. All of this at round 0, and none at the
slot of the device's own number, which is never sent or waited for.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's copy of the rounds and the kernel's own, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

/-- The barrier semaphore. -/
abbrev barS : Sem sig := (SemArray.scalar (sig.barrier 0 rfl) : Sems sig S_).sem
set_option backward.proofsInPublic true in
/-- The send semaphore of slot `b`, and the receive semaphore of slot `s`. -/
def sendS (b : Dev nD) : DmaSem sig := ⟨4 + b.val, by have := b.isLt; show 4 + b.val < 20; change b.val < 8 at this; omega⟩
set_option backward.proofsInPublic true in
def recvS (s : Dev nD) : DmaSem sig := ⟨12 + s.val, by have := s.isLt; show 12 + s.val < 20; change s.val < 8 at this; omega⟩

/-- Which semaphore of a device: the barrier, `some (false, b)` the send semaphore of slot `b`, `some (true, s)` the receive semaphore of slot `s`. -/
abbrev SemIx : Type := Option (Bool × Dev nD)
abbrev csem : SemIx → SemLoc sig := fun
  | none => .reg barS
  | some (false, b) => .dma (sendS b)
  | some (true, s) => .dma (recvS s)

abbrev barCell (c : Dev nD) : GSem nD τ sig := ((c : Thread nD τ), .reg barS)
abbrev sendCell (c b : Dev nD) : GSem nD τ sig := ((c : Thread nD τ), .dma (sendS b))
abbrev recvCell (c s : Dev nD) : GSem nD τ sig := ((c : Thread nD τ), .dma (recvS s))
abbrev kcell (ck : Dev nD × SemIx) : GSem nD τ sig := ((ck.1 : Thread nD τ), csem ck.2)

theorem csem_inj : Function.Injective csem := by decide
theorem kcell_injective : Function.Injective (kcell : Dev nD × SemIx → GSem nD τ sig) := by
  rintro ⟨c, k⟩ ⟨c', k'⟩ h
  have h1 : c = c' := by have := congrArg (fun g : GSem nD τ sig => g.1.1) h; exact this
  subst h1
  exact congrArg (Prod.mk c) (csem_inj (congrArg Prod.snd h))

/-- The semaphore's index of a semaphore, if it is one of the kernel's. -/
def semIx (s : SemLoc sig) : Option SemIx := if h : ∃ k, csem k = s then some h.choose else none
theorem semIx_csem (k : SemIx) : semIx (csem k) = some k := by
  have h : ∃ k', csem k' = csem k := ⟨k, rfl⟩
  rw [semIx, dif_pos h]; exact congrArg some (csem_inj h.choose_spec)

/-! ## The slots of the two communication buffers -/

abbrev sendM : Memref sig .tc .vmem S8x64x1024 .bf16 := Memref.whole cc0_scratch7
abbrev recvM : Memref sig .tc .vmem S8x64x1024 .bf16 := Memref.whole cc0_scratch8

theorem slot_inb (s : Dev nD) : ∀ a, (![s.val, 0, 0] : Fin 3 → ℕ) a + S1x64x1024.size a ≤ S8x64x1024.size a := by
  revert s; decide
/-- Slot `s` of an `8×64×1024` buffer, as the copies and the waits name it. -/
abbrev slotRect (s : Dev nD) : Rect S8x64x1024 := Rect.unit (s := S8x64x1024) ![s.val, 0, 0] S1x64x1024.size (slot_inb s)
abbrev slotOf (M : Memref sig .tc .vmem S8x64x1024 .bf16) (s : Dev nD) : Memref sig .tc .vmem S64x1024 .bf16 :=
  (M.slice (slotRect s) (fun _ => rfl)).squeeze S64x1024 squeezes_S1x64x1024_S64x1024

/-- The elements of slot `s`. -/
def slotSet (s : Dev nD) : Finset S8x64x1024.Idx := (slotRect s).set

theorem mem_slotSet (s : Dev nD) (i : S8x64x1024.Idx) : i ∈ slotSet s ↔ (i (0 : Fin 3)).val = s.val := by
  unfold slotSet
  rw [Rect.mem_set_unit]
  constructor
  · intro h; have := h (0 : Fin 3); simp [S1x64x1024] at this; omega
  · intro h a
    have h1 := (i (1 : Fin 3)).isLt
    have h2 := (i (2 : Fin 3)).isLt
    fin_cases a
    · show s.val ≤ (i (0 : Fin 3)).val ∧ (i (0 : Fin 3)).val < s.val + 1; omega
    · exact ⟨Nat.zero_le _, by simpa using h1⟩
    · exact ⟨Nat.zero_le _, by simpa using h2⟩

/-- The bytes a copy of one slot counts. -/
abbrev N : ℕ := (slotOf recvM (0 : Dev nD)).view.dmaCredit
theorem N_pos : 0 < N := View.dmaCredit_pos _ (by decide)

/-- Slot `s` of device `c`'s receive buffer, and of its send buffer, held whole at `f`. -/
def recvPts (c s : Dev nD) (f : Buf (Elt F) ((c : Thread nD τ).loc cc0_scratch8)) : sProp 𝕄 :=
  ((c : Thread nD τ).loc cc0_scratch8) ↦[slotSet s]{fullShare} f
def sendPts (c b : Dev nD) (f : Buf (Elt F) ((c : Thread nD τ).loc cc0_scratch7)) : sProp 𝕄 :=
  ((c : Thread nD τ).loc cc0_scratch7) ↦[slotSet b]{fullShare} f

omit [FloatOps F] in
instance recvPts_storable (c s : Dev nD) (f) : BI.Storable (upEmb : UEmb _ 𝕄) (recvPts (F := F) c s f) := by unfold recvPts; infer_instance
omit [FloatOps F] in
instance sendPts_storable (c s : Dev nD) (f) : BI.Storable (upEmb : UEmb _ 𝕄) (sendPts (F := F) c s f) := by unfold sendPts; infer_instance

/-! ## The schedule -/

section Sched

/- `G c` is what device `c`'s receive buffer holds once every block has arrived. -/
variable (G : (c : Dev nD) → Buf (Elt F) ((c : Thread nD τ).loc cc0_scratch8))

def dutiesOf (c : Dev nD) : Option SemIx → Finset (Dev nD)
  | some none => Finset.univ.erase c
  | some (some (false, b)) => if b = c then ∅ else {c}
  | some (some (true, s)) => if s = c then ∅ else {s}
  | none => ∅
def payloadOf (c d : Dev nD) : Option SemIx → sProp 𝕄
  | some none => iprop(∃ f, recvPts d c f)
  | some (some (false, b)) => iprop(∃ f, sendPts c b f)
  | some (some (true, s)) => recvPts c s (G c)
  | none => iprop(emp)

instance payloadOf_storable (c d : Dev nD) (k : Option SemIx) : BI.Storable (upEmb : UEmb _ 𝕄) (payloadOf (F := F) G c d k) := by
  rcases k with _ | _ | ⟨_ | _, _⟩ <;> (unfold payloadOf; infer_instance)

def rd : Rounds.Schedule (GSem nD τ sig) (Dev nD) 𝕄 where
  duties g r := if r = 0 ∧ g.1.2 = .tc then dutiesOf g.1.1 (semIx g.2) else ∅
  unitless _ := False
  amount g _ _ := if g.2 = .reg barS then 1 else N
  payload g _ d := payloadOf G g.1.1 d (semIx g.2)
  amount_pos g _ _ _ := by
    by_cases h : g.2 = .reg barS
    · rw [if_pos h]; exact Nat.one_pos
    · rw [if_neg h]; exact N_pos

instance rd_payload_storable (g : GSem nD τ sig) (r : ℕ) (d : Dev nD) : BI.Storable (upEmb : UEmb _ 𝕄) ((rd (F := F) G).payload g r d) :=
  payloadOf_storable G g.1.1 d (semIx g.2)

theorem duties_kcell (c : Dev nD) (k : SemIx) : (rd (F := F) G).duties (kcell (c, k)) 0 = dutiesOf c (some k) := by
  show (if (0 = 0 ∧ (c : Thread nD τ).2 = .tc) then dutiesOf c (semIx (csem k)) else ∅) = _
  rw [if_pos ⟨rfl, rfl⟩, semIx_csem]
theorem duties_later (g : GSem nD τ sig) : ∀ r, 1 ≤ r → (rd (F := F) G).duties g r = ∅ :=
  fun r hr => by dsimp only [rd]; rw [if_neg fun h => by omega]
theorem payload_kcell (c d : Dev nD) (k : SemIx) : (rd (F := F) G).payload (kcell (c, k)) 0 d = payloadOf G c d (some k) := by
  show payloadOf G c d (semIx (csem k)) = _
  rw [semIx_csem]
theorem amount_bar (c d : Dev nD) : (rd (F := F) G).amount (barCell c) 0 d = 1 := by dsimp only [rd]; exact if_pos rfl
theorem amount_dma (c d : Dev nD) (q : DmaSem sig) : (rd (F := F) G).amount ((c : Thread nD τ), .dma q) 0 d = N := by
  dsimp only [rd]; exact if_neg (fun h => by cases h)

theorem duties_bar (c : Dev nD) : (rd (F := F) G).duties (barCell c) 0 = Finset.univ.erase c := duties_kcell G c none
theorem duties_send {c b : Dev nD} (h : b ≠ c) : (rd (F := F) G).duties (sendCell c b) 0 = {c} :=
  (duties_kcell G c (some (false, b))).trans (if_neg h)
theorem duties_recv {c s : Dev nD} (h : s ≠ c) : (rd (F := F) G).duties (recvCell c s) 0 = {s} :=
  (duties_kcell G c (some (true, s))).trans (if_neg h)
theorem duties_send_self (c : Dev nD) : ∀ r, 0 ≤ r → (rd (F := F) G).duties (sendCell c c) r = ∅ := fun r _ => by
  rcases r with _ | r
  · exact (duties_kcell G c (some (false, c))).trans (if_pos rfl)
  · exact duties_later G _ _ (Nat.succ_pos r)
theorem duties_recv_self (c : Dev nD) : ∀ r, 0 ≤ r → (rd (F := F) G).duties (recvCell c c) r = ∅ := fun r _ => by
  rcases r with _ | r
  · exact (duties_kcell G c (some (true, c))).trans (if_pos rfl)
  · exact duties_later G _ _ (Nat.succ_pos r)

theorem expect_bar (c : Dev nD) : (rd (F := F) G).expect (barCell c) 0 = 7 := by
  unfold Schedule.expect Schedule.amountOf
  rw [duties_bar, Finset.sum_congr rfl fun d _ => amount_bar G c d, Finset.sum_const, Finset.card_erase_of_mem (Finset.mem_univ c)]
  rfl
theorem expect_send {c b : Dev nD} (h : b ≠ c) : (rd (F := F) G).expect (sendCell c b) 0 = N := by
  unfold Schedule.expect Schedule.amountOf; rw [duties_send G h, Finset.sum_singleton]; exact amount_dma G c c _
theorem expect_recv {c s : Dev nD} (h : s ≠ c) : (rd (F := F) G).expect (recvCell c s) 0 = N := by
  unfold Schedule.expect Schedule.amountOf; rw [duties_recv G h, Finset.sum_singleton]; exact amount_dma G c s _

theorem rest_bar (c : Dev nD) : bigSep ((rd (F := F) G).duties (barCell c) 0 \ ∅) (fun d => (rd (F := F) G).payload (barCell c) 0 d)
    = bigSep (Finset.univ.erase c) fun d => (iprop(∃ f, recvPts d c f) : sProp 𝕄) := by
  rw [Finset.sdiff_empty, duties_bar]
  exact bigSep_congr fun d _ => payload_kcell G c d none
theorem rest_send {c b : Dev nD} (h : b ≠ c) : bigSep ((rd (F := F) G).duties (sendCell c b) 0 \ ∅) (fun d => (rd (F := F) G).payload (sendCell c b) 0 d)
    = (iprop(∃ f, sendPts c b f) : sProp 𝕄) := by
  rw [Finset.sdiff_empty, duties_send G h, bigSep_singleton]; exact payload_kcell G c c (some (false, b))
theorem rest_recv {c s : Dev nD} (h : s ≠ c) : bigSep ((rd (F := F) G).duties (recvCell c s) 0 \ ∅) (fun d => (rd (F := F) G).payload (recvCell c s) 0 d)
    = (recvPts c s (G c) : sProp 𝕄) := by
  rw [Finset.sdiff_empty, duties_recv G h, bigSep_singleton]; exact payload_kcell G c s (some (true, s))

end Sched

/-! ## What a device owes: a unit to each other device's barrier, a slot's bytes to each other device's receive semaphore of its own number -/

/-- The sum of `f` from `k` on. -/
def sumFrom {A : Type} [AddCommMonoid A] (f : Dev nD → A) (k : ℕ) : A := ∑ p : Dev nD, if k ≤ p.val then f p else 0

theorem sumFrom_zero {A : Type} [AddCommMonoid A] (f : Dev nD → A) : sumFrom f 0 = ∑ p : Dev nD, f p :=
  Finset.sum_congr rfl fun p _ => if_pos (Nat.zero_le _)
theorem sumFrom_end {A : Type} [AddCommMonoid A] (f : Dev nD → A) : sumFrom f 8 = 0 :=
  Finset.sum_eq_zero fun p _ => if_neg (by have := p.isLt; change p.val < 8 at this; omega)
theorem sumFrom_succ {A : Type} [AddCommMonoid A] (f : Dev nD → A) (k : Dev nD) : sumFrom f k.val = sumFrom f (k.val + 1) + f k := by
  have h : f k = ∑ p : Dev nD, if p = k then f p else 0 := by rw [Finset.sum_ite_eq' Finset.univ k f, if_pos (Finset.mem_univ k)]
  unfold sumFrom
  conv_rhs => rw [h]
  rw [← Finset.sum_add_distrib]
  refine Finset.sum_congr rfl fun p _ => ?_
  rcases lt_trichotomy p.val k.val with hl | he | hg
  · rw [if_neg (by omega), if_neg (by omega), if_neg (fun h => by rw [h] at hl; omega), zero_add]
  · rw [if_pos (by omega), if_neg (by omega), if_pos (Fin.ext he), zero_add]
  · rw [if_pos (by omega), if_pos (by omega), if_neg (fun h => by rw [h] at hg; omega), add_zero]

def barDebt (c p : Dev nD) : CellTallies nD τ sig Unit := if p = c then 0 else tallyAt (barCell p) () 1
def recvDebt (c b : Dev nD) : CellTallies nD τ sig Unit := if b = c then 0 else tallyAt (recvCell b c) () N

def O₀ (c : Dev nD) : CellTallies nD τ sig Unit := sumFrom (recvDebt c) 0 + sumFrom (barDebt c) 0

def L (g : GSem nD τ sig) : Finset Unit := if g.1.2 = .tc then {()} else ∅
/-- Levels: the barrier at 1, the receive semaphores at 2, everything else (staging, send) at 0. -/
def lv (g : GSem nD τ sig) (_ : Unit) : ℕ := if g.2 = .reg barS then 1 else if ∃ s, g.2 = .dma (recvS s) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c s : Dev nD) (u : Unit) : lv (recvCell c s) u = 2 := by
  unfold lv; rw [if_neg (fun h => by cases h), if_pos ⟨s, rfl⟩]

theorem sumFrom_apply (f : Dev nD → CellTallies nD τ sig Unit) (k : ℕ) (g : GSem nD τ sig) (u : Unit) :
    sumFrom f k g u = ∑ p : Dev nD, if k ≤ p.val then f p g u else 0 := by
  unfold sumFrom
  rw [Finset.sum_apply, Finsupp.finset_sum_apply]
  exact Finset.sum_congr rfl fun p _ => by split <;> rfl

theorem recvFrom_pos {c : Dev nD} {k : ℕ} {g : GSem nD τ sig} {u : Unit} (h : 0 < sumFrom (recvDebt c) k g u) : ∃ b : Dev nD, g = recvCell b c := by
  rw [sumFrom_apply] at h
  by_contra hn
  refine absurd (Finset.sum_eq_zero fun b _ => ?_) h.ne'
  split
  · unfold recvDebt; split
    · rfl
    · rw [tallyAt_apply, if_neg (fun h' => hn ⟨b, h'.1⟩)]
  · rfl
theorem barFrom_pos {c : Dev nD} {k : ℕ} {g : GSem nD τ sig} {u : Unit} (h : 0 < sumFrom (barDebt c) k g u) : ∃ b : Dev nD, g = barCell b := by
  rw [sumFrom_apply] at h
  by_contra hn
  refine absurd (Finset.sum_eq_zero fun b _ => ?_) h.ne'
  split
  · unfold barDebt; split
    · rfl
    · rw [tallyAt_apply, if_neg (fun h' => hn ⟨b, h'.1⟩)]
  · rfl
theorem O₀_pos {c : Dev nD} {g : GSem nD τ sig} {u : Unit} (h : 0 < O₀ c g u) : (∃ b, g = recvCell b c) ∨ ∃ b, g = barCell b := by
  unfold O₀ at h
  rw [Pi.add_apply, Finsupp.add_apply] at h
  rcases Nat.eq_zero_or_pos (sumFrom (recvDebt c) 0 g u) with h0 | h0
  · rw [h0, Nat.zero_add] at h; exact .inr (barFrom_pos h)
  · exact .inl (recvFrom_pos h0)

omit [FloatOps F] in
theorem mayWait_stage (c : Dev nD) (q : DmaSem sig) (hq : ∀ s, q ≠ recvS s) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨b, rfl⟩ | ⟨b, rfl⟩ <;> exact Finset.mem_singleton_self _)
      (fun p hp => by
        rw [Finset.mem_singleton.mp hp]; unfold lv
        rw [if_neg (fun h => by cases h), if_neg (fun ⟨s, h⟩ => hq s (SemLoc.dma.inj h))])
      (fun g u hg => by
        rcases O₀_pos hg with ⟨b, rfl⟩ | ⟨b, rfl⟩
        · rw [lv_recv]; decide
        · rw [lv_bar]; decide)
  · rw [MayWait_zero]; iintro -; iempintro

omit [FloatOps F] in
/-- At its barrier wait a device owes receive semaphores only, which are above the barrier. -/
theorem mayWait_bar (c : Dev nD) : (levAts L lv : sProp 𝕄) ⊢ MayWait (c : Thread nD τ) (.reg barS) () (sumFrom (recvDebt c) 0) :=
  MayOwe.of_cut (L := L) (lev := lv) 1 (fun p hp => by rw [Finset.mem_singleton.mp hp, L_tc]; exact Finset.mem_singleton_self _)
    (fun g u hg => by obtain ⟨b, rfl⟩ := recvFrom_pos hg; exact Finset.mem_singleton_self _)
    (fun p hp => by rw [Finset.mem_singleton.mp hp]; exact (lv_bar c ()).le)
    (fun g u hg => by obtain ⟨b, rfl⟩ := recvFrom_pos hg; rw [lv_recv]; decide)

/-! ## The shared records: every cell's invariant, and that round 0 of every cell is reached -/

section Records

variable (G : (c : Dev nD) → Buf (Elt F) ((c : Thread nD τ).loc cc0_scratch8)) (K : Dev nD × SemIx → ℕ)

def records : sProp 𝕄 :=
  iprop((bigSep Finset.univ fun ck : Dev nD × SemIx => cellInv ER (rd G) (K ck) (kcell ck))
    ∗ bigSep Finset.univ fun ck : Dev nD × SemIx => reached ER (kcell ck) 0)

instance records_persistent : BI.Persistent (records (F := F) G K) := by unfold records; infer_instance

theorem inv_at (ck : Dev nD × SemIx) : records G K ⊢ (cellInv ER (rd G) (K ck) (kcell ck) : sProp 𝕄) := by
  unfold records
  iintro ⟨H, -⟩
  iapply (show (bigSep Finset.univ fun ck : Dev nD × SemIx => (cellInv ER (rd G) (K ck) (kcell ck) : sProp 𝕄)) ⊢ cellInv ER (rd G) (K ck) (kcell ck)
    from bigSep_elim (Finset.mem_univ ck))
  iexact H
theorem reached_at (ck : Dev nD × SemIx) : records G K ⊢ (reached ER (kcell ck) 0 : sProp 𝕄) := by
  unfold records
  iintro ⟨-, H⟩
  iapply (show (bigSep Finset.univ fun ck : Dev nD × SemIx => (reached ER (kcell ck) 0 : sProp 𝕄)) ⊢ reached ER (kcell ck) 0
    from bigSep_elim (Finset.mem_univ ck))
  iexact H

end Records

/-! ## A family handled one member at a time, in order -/

/-- The members before `k` at `B`, the others at `A`. -/
def fam (A B : Dev nD → sProp 𝕄) (k : ℕ) : sProp 𝕄 := bigSep Finset.univ fun p : Dev nD => if p.val < k then B p else A p

omit [FloatOps F] in
theorem fam_zero (A B : Dev nD → sProp 𝕄) : fam A B 0 = bigSep Finset.univ A := bigSep_congr fun p _ => if_neg (Nat.not_lt_zero _)
omit [FloatOps F] in
theorem fam_end (A B : Dev nD → sProp 𝕄) : fam A B 8 = bigSep Finset.univ B := bigSep_congr fun p _ => if_pos p.isLt
omit [FloatOps F] in
theorem fam_step (A B : Dev nD → sProp 𝕄) (k : Dev nD) : fam A B k.val ⊢ iprop(A k ∗ (B k -∗ fam A B (k.val + 1))) := by
  unfold fam
  rw [bigSep_univ_at (fun p : Dev nD => if p.val < k.val then B p else A p) k, if_neg (Nat.lt_irrefl _),
    bigSep_univ_at (fun p : Dev nD => if p.val < k.val + 1 then B p else A p) k, if_pos (Nat.lt_succ_self _),
    bigSep_congr (s := Finset.univ.erase k) (Ψ := fun p : Dev nD => if p.val < k.val + 1 then B p else A p) fun p hp => by
      have hne : p.val ≠ k.val := fun h => (Finset.mem_erase.mp hp).1 (Fin.ext h)
      by_cases hlt : p.val < k.val
      · rw [if_pos hlt, if_pos (by omega)]
      · rw [if_neg hlt, if_neg (by omega)]]
  iintro ⟨HA, Hr⟩
  isplitl [HA]; · iexact HA
  iintro HB
  isplitl [HB] <;> iassumption

end Cert.KernelIdealProof
end
-- ==== Proof.KernelIdealSteps.lean ====
/-
The kernel's steps, each proved once at a symbolic device and a symbolic slot: the signal to one device, the barrier
wait, the block kept or sent, the wait for one slot's arrival, the wait for one slot's departure. Each step is a
conditional on the slot's number being the device's own, so that the members of a family are handled one after the
other (`fam`) without a case split on the device.
-/
module

public import proofs.«01_k».proof.Proof.KernelIdealProtocol

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program on device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores at the head of a program -/

section LoadStore
variable (c : Dev nD) {α : Type}

theorem ld {Q : α → sProp 𝕄} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {f : Buf (Elt F) (M.view.loc (c : Thread nD τ))} :
    (M.view.loc (c : Thread nD τ) ↦{fullShare} f)
      ⊢ iprop(((M.view.loc (c : Thread nD τ) ↦{fullShare} f) -∗ WP c (k (M.view.readAt (Elt F) r f)) Q)
        -∗ WP c (Prog.lift (.load M r hl) >>= k) Q) :=
  wp_load 𝒱₀ (c : Thread nD τ) none Set.univ (Finset.subset_univ _)

theorem st {Q : α → sProp 𝕄} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {f : Buf (Elt F) ((M.access r).loc (c : Thread nD τ))} :
    ((M.access r).loc (c : Thread nD τ) ↦{fullShare} f)
      ⊢ iprop((((M.access r).loc (c : Thread nD τ) ↦{fullShare} ((M.access r).write (Elt F) f w Finset.univ)) -∗ WP c (k ⟨⟩) Q)
        -∗ WP c (Prog.lift (.store M r w Finset.univ hx hm) >>= k) Q) :=
  wp_store 𝒱₀ (c : Thread nD τ) none Set.univ (Finset.subset_univ _)

theorem ld_on {Q : α → sProp 𝕄} {cs : CoreSpace} {s : Shape} {e : EltTy} {M : Memref sig .tc cs s e} {r : Rect s} {hl : M.view.LoadsAt r.toLoadRect}
    {k : (r.shape.Idx → Elt F e) → Prog (TpuEff nD τ sig (Elt F) Λ₀ .tc) α} {S : Finset (Idx ((M.access r).loc (c : Thread nD τ)))}
    {f : Buf (Elt F) ((M.access r).loc (c : Thread nD τ))} (hS : (M.access r).set = S) :
    ((M.access r).loc (c : Thread nD τ) ↦[S]{fullShare} f)
      ⊢ iprop((((M.access r).loc (c : Thread nD τ) ↦[S]{fullShare} f) -∗ WP c (k ((M.access r).read (Elt F) f)) Q)
        -∗ WP c (Prog.lift (.load M r.toLoadRect hl) >>= k) Q) :=
  wp_load_rect 𝒱₀ (c : Thread nD τ) none Set.univ (le_of_eq hS)

theorem st_on {Q : α → sProp 𝕄} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {S : Finset (Idx ((M.access r).loc (c : Thread nD τ)))}
    {f : Buf (Elt F) ((M.access r).loc (c : Thread nD τ))} (hS : (M.access r).set = S) :
    ((M.access r).loc (c : Thread nD τ) ↦[S]{fullShare} f)
      ⊢ iprop((((M.access r).loc (c : Thread nD τ) ↦[S]{fullShare} ((M.access r).write (Elt F) f w Finset.univ)) -∗ WP c (k ⟨⟩) Q)
        -∗ WP c (Prog.lift (.store M r w Finset.univ hx hm) >>= k) Q) :=
  wp_store 𝒱₀ (c : Thread nD τ) none Set.univ (le_of_eq hS)

end LoadStore

/-! ## Slots read, written and landed -/

/-- What the receive buffers hold, from what each device computes for each other one. -/
def Gof (pair : Dev nD → Dev nD → S1x64x1024.Idx → Elt F .bf16) (c : Dev nD) : Buf (Elt F) ((c : Thread nD τ).loc cc0_scratch8) :=
  fun i => pair (i (0 : Fin 3)) c (fun | (0 : Fin 3) => (0 : Fin 1) | (1 : Fin 3) => (i (1 : Fin 3) : Fin 64) | (2 : Fin 3) => (i (2 : Fin 3) : Fin 1024))

section Slots
variable (pair : Dev nD → Dev nD → S1x64x1024.Idx → Elt F .bf16)

theorem slot_emb_val (s : Dev nD) (j : (slotRect s).shape.Idx) (a : Fin 3) :
    ((slotRect s).emb j a).val = (![s.val, 0, 0] : Fin 3 → ℕ) a + 1 * (j a).val := rfl

theorem Gof_slot (c s : Dev nD) (j : (slotRect s).shape.Idx) : Gof pair c ((slotRect s).emb j) = pair s c j := by
  have h0 : ((slotRect s).emb j (0 : Fin 3) : Fin 8) = s := Fin.ext (by
    have := slot_emb_val s j (0 : Fin 3)
    have h1 : (j (0 : Fin 3)).val < 1 := (j (0 : Fin 3)).isLt
    show ((slotRect s).emb j (0 : Fin 3)).val = s.val
    rw [this]; show s.val + 1 * (j (0 : Fin 3)).val = s.val; omega)
  unfold Gof
  rw [h0]
  congr 1
  funext a
  fin_cases a
  · exact Fin.ext (by show 0 = (j (0 : Fin 3)).val; have h1 : (j (0 : Fin 3)).val < 1 := (j (0 : Fin 3)).isLt; omega)
  · exact Fin.ext ((slot_emb_val s j (1 : Fin 3)).trans (by show 0 + 1 * (j (1 : Fin 3)).val = (j (1 : Fin 3)).val; omega))
  · exact Fin.ext ((slot_emb_val s j (2 : Fin 3)).trans (by show 0 + 1 * (j (2 : Fin 3)).val = (j (2 : Fin 3)).val; omega))

theorem slot_mem (s : Dev nD) {i : S8x64x1024.Idx} (hi : i ∈ slotSet s) : ∃ j, (slotRect s).emb j = i := by
  unfold slotSet at hi
  rw [← Rect.map_emb_univ] at hi
  obtain ⟨j, -, h⟩ := Finset.mem_map.mp hi
  exact ⟨j, h⟩

/-- The block kept: the slot of the device's own number written. -/
theorem kept_eq (c : Dev nD) {f : Buf (Elt F) ((c : Thread nD τ).loc cc0_scratch8)} {w : (slotRect c).shape.Idx → Elt F .bf16} (hw : w = pair c c) :
    ∀ i ∈ slotSet c, (recvM.access (slotRect c) : View sig .tc _ _ _).write (Elt F) f w Finset.univ i = Gof pair c i := by
  intro i hi
  obtain ⟨j, rfl⟩ := slot_mem _ hi
  rw [Gof_slot, ← hw]
  exact View.write_emb_of_mem (v := (recvM.access (slotRect c) : View sig .tc _ _ _)) f w (Finset.mem_univ j)

omit [FloatOps F] in
/-- A payload written through one view of a buffer, read through the view's reshape, written through the same reshape of
another view: the payload, at the second view's elements. -/
theorem landed_gen {κ κ' : Kind} {sp sp' : Space} {s s' : Shape} {e : EltTy} (v : View sig κ sp s e) (v' : View sig κ' sp' s e)
    (hn : s'.numel = s.numel) (f : v.ty.Contents (Elt F)) (f' : v'.ty.Contents (Elt F)) (w : s.Idx → Elt F e) (j : s.Idx) :
    (v'.reshape s' hn).write (Elt F) f' ((v.reshape s' hn).read (Elt F) (v.write (Elt F) f w Finset.univ)) Finset.univ (v'.emb j)
      = cast (congrArg (Elt F) v'.elt_eq.symm) (w j) := by
  obtain ⟨x, hx⟩ := (Shape.reshapeEquiv hn).surjective j
  have h1 := View.write_emb_of_mem (v := v'.reshape s' hn) f' ((v.reshape s' hn).read (Elt F) (v.write (Elt F) f w Finset.univ)) (Finset.mem_univ x)
  have h2 : (v'.reshape s' hn).emb x = v'.emb j := by rw [View.emb_reshape]; exact congrArg v'.emb hx
  rw [h2] at h1
  rw [h1]
  congr 1
  have h3 : (v.reshape s' hn).read (Elt F) (v.write (Elt F) f w Finset.univ) x = v.read (Elt F) (v.write (Elt F) f w Finset.univ) ((Shape.reshapeEquiv hn) x) := rfl
  rw [h3, View.read_write_univ, hx]

/-- The block sent, as it lands: slot `b` of the sender's buffer written, then copied into slot `c` of the other device's. -/
theorem landed_eq (c b : Dev nD) {fs : Buf (Elt F) ((c : Thread nD τ).loc cc0_scratch7)} {w : (slotRect b).shape.Idx → Elt F .bf16} (hw : w = pair c b)
    (fd : Buf (Elt F) ((b : Thread nD τ).loc cc0_scratch8)) :
    ∀ i ∈ slotSet c, (slotOf recvM c).view.write (Elt F) fd
        ((slotOf sendM b).view.read (Elt F) ((sendM.access (slotRect b) : View sig .tc _ _ _).write (Elt F) fs w Finset.univ)) Finset.univ i = Gof pair b i := by
  intro i hi
  obtain ⟨j, rfl⟩ := slot_mem _ hi
  rw [Gof_slot, ← hw]
  exact landed_gen (sendM.access (slotRect b) : View sig .tc _ _ _) (recvM.access (slotRect c) : View sig .tc _ _ _)
    squeezes_S1x64x1024_S64x1024.numel_eq fs fd w j

theorem slot_view_set (M : Memref sig .tc .vmem S8x64x1024 .bf16) (s : Dev nD) : (slotOf M s).view.set = (slotRect s).set.map M.view.emb := by
  exact (View.set_reshape (v := M.view.slice (slotRect s)) squeezes_S1x64x1024_S64x1024.numel_eq).trans (View.set_slice _ _)
theorem slot_set_send (s : Dev nD) : (slotOf sendM s).view.set = slotSet s := by
  rw [slot_view_set]; exact Finset.map_refl
theorem slot_set_recv (s : Dev nD) : (slotOf recvM s).view.set = slotSet s := by
  rw [slot_view_set]; exact Finset.map_refl
theorem access_set_send (s : Dev nD) : (sendM.access (slotRect s) : View sig .tc _ _ _).set = slotSet s :=
  (View.set_slice _ _).trans Finset.map_refl
theorem access_set_recv (s : Dev nD) : (recvM.access (slotRect s) : View sig .tc _ _ _).set = slotSet s :=
  (View.set_slice _ _).trans Finset.map_refl
theorem credit_recv (s : Dev nD) : (slotOf recvM s).view.dmaCredit = N := rfl
theorem credit_send (s : Dev nD) : (slotOf sendM s).view.dmaCredit = N := rfl

end Slots

section Steps
variable (pair : Dev nD → Dev nD → S1x64x1024.Idx → Elt F .bf16) (Kn : Dev nD × SemIx → ℕ)

/-! ## The signals -/

/-- What pays a signal of `c` to `p`: the duty's token, and the slot `p` writes in `c`'s receive buffer. -/
def sigRes (c p : Dev nD) : sProp 𝕄 := if p = c then iprop(emp) else iprop(dutyTok ER (barCell p) 0 c ∗ ∃ f, recvPts c p f)
/-- Between signals: those before `k` are done. -/
def sigSt (c : Dev nD) (k : ℕ) : sProp 𝕄 :=
  iprop((∃ W, owes (c : Thread nD τ) (sumFrom (recvDebt c) 0 + sumFrom (barDebt c) k) W) ∗ fam (sigRes (F := F) c) (fun _ => iprop(emp)) k)

theorem step_signal (c k : Dev nD) {n m : ℕ} (hn : n = k.val) (hm : m = k.val + 1) {C : Prop} [Decidable C] (hC : C ↔ k ≠ c)
    {dv : C → Dev nD} (hdv : ∀ h, dv h = k) {α : Type} {Q : α → sProp 𝕄} {K : Prog (TpuEff nD τ sig (Elt F) Λ₀ .tc) α} :
    iprop(records (Gof pair) Kn ∗ sigSt (F := F) c n)
      ⊢ iprop((sigSt c m -∗ WP c K Q) -∗ WP c (dite C (fun h => semSignalWord (dv h) barS 1#32 >>= fun _ => K) (fun _ => K)) Q) := by
  subst hn hm
  unfold sigSt
  iintro ⟨#HR, ⟨%W, HO⟩, Hf⟩ Hk
  ihave Hf' := (fam_step (sigRes (F := F) c) (fun _ => iprop(emp)) k) $$ Hf
  icases Hf' with ⟨HA, Hf⟩
  by_cases h : C
  · have hne := hC.mp h
    rw [dif_pos h, hdv h]
    ihave HA' := (Entails.of_eq (show sigRes (F := F) c k = iprop(dutyTok ER (barCell k) 0 c ∗ ∃ f, recvPts c k f) from if_neg hne)) $$ HA
    icases HA' with ⟨Ht, Hp⟩
    iapply (Rounds.wp_signal 𝒱₀ ER (rd (Gof pair)) (c : Thread nD τ) none (dst := (k : Thread nD τ)) (sem := barS) (κ := Kn (k, none)) (k' := 1)
        (O₀ := sumFrom (recvDebt c) 0 + sumFrom (barDebt c) k.val) (d := c) (by rw [duties_bar]; exact Finset.mem_erase.mpr ⟨fun h => hne h.symm, Finset.mem_univ _⟩) (amount_bar (Gof pair) k c) ()
        (sumFrom (recvDebt c) 0 + sumFrom (barDebt c) (k.val + 1))
        (by rw [sumFrom_succ (barDebt c) k, show barDebt c k = tallyAt (barCell k) () 1 from if_neg hne, add_assoc])) $$ [HO Ht Hp]
    · isplitr; · iapply (inv_at (Gof pair) Kn (k, none)); iexact HR
      isplitl [HO]; · iexact HO
      isplitl [Ht]; · iexact Ht
      isplitl [Hp]
      · iapply (Entails.of_eq (show iprop(∃ f, recvPts c k f) = (rd (Gof pair)).payload (barCell k) 0 c from (payload_kcell (Gof pair) k c none).symm)); iexact Hp
      · iapply (reached_at (Gof pair) Kn (k, none)); iexact HR
    iintro HO
    iapply Hk
    isplitl [HO]; · iexists W; iexact HO
    iapply Hf; iempintro
  · have he : k = c := by by_contra hne; exact h (hC.mpr hne)
    rw [dif_neg h]
    iapply Hk
    isplitl [HO]
    · iexists W
      rw [sumFrom_succ (barDebt c) k, show barDebt c k = 0 from if_pos he, add_zero]
      iexact HO
    iapply Hf; iempintro

/-! ## The barrier wait -/

theorem step_barrier (c : Dev nD) {α : Type} {Q : α → sProp 𝕄} {k : PUnit → Prog (TpuEff nD τ sig (Elt F) Λ₀ .tc) α} :
    iprop(records (Gof pair) Kn ∗ levAts L lv ∗ sigSt (F := F) c 8 ∗ cred (tallyAt (barCell c) () 7) ∗ atPos ER (barCell c) 0 ∅ 0)
      ⊢ iprop((((∃ W, owes (c : Thread nD τ) (sumFrom (recvDebt c) 0) W) ∗ semVal (barCell c) 0
            ∗ bigSep (Finset.univ.erase c) fun d => iprop(∃ f, recvPts d c f)) -∗ WP c (k ⟨⟩) Q)
          -∗ WP c (semWaitWord barS 7#32 >>= k) Q) := by
  unfold sigSt
  iintro ⟨#HR, #Hlev, ⟨⟨%W, HO⟩, -⟩, Hc, Hat⟩ Hk
  rw [sumFrom_end, add_zero]
  iapply (Rounds.wp_wait_rest_token 𝒱₀ ER (rd (Gof pair)) (c : Thread nD τ) none (κ := Kn (c, none))
      (wpE_semWait_eq 𝒱₀ (c : Thread nD τ) none Set.univ) (Set.mem_univ _) () (O := sumFrom (recvDebt c) 0) (W := W) (R := 0) (m := 0) (T := ∅)
      (by rw [expect_bar]; rfl)) $$ [Hc HO Hat]
  · isplitr; · iapply (inv_at (Gof pair) Kn (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar (Gof pair) c)) $$ Hpay
  imod (cell_close ER (rd (Gof pair)) (κ := Kn (c, none)) (Set.mem_univ _) (fun h => h) (R := 0 + 1) (duties_later (Gof pair) (barCell c))) $$ [Hat] with Hv
  · isplitr; · iapply (inv_at (Gof pair) Kn (c, none)); iexact HR
    iexact Hat
  iapply Hk
  isplitl [HO]; · iexists _; iexact HO
  isplitl [Hv]; · iexact Hv
  iexact Hp

/-! ## A block kept or sent -/

/-- What block `b` takes: its own slots of both buffers when it is the device's own; else its slot of the send buffer, the
slot of the device's number in `b`'s receive buffer and the two duties' tokens. -/
def sendRes (c b : Dev nD) : sProp 𝕄 :=
  if b = c then iprop((∃ f, recvPts c c f) ∗ ∃ f, sendPts c c f)
  else iprop((∃ f, sendPts c b f) ∗ (∃ f, recvPts b c f) ∗ dutyTok ER (sendCell c b) 0 c ∗ dutyTok ER (recvCell b c) 0 c)
/-- What it leaves: the own block in its slot; else the credit to wait for the copy's departure. -/
def sendDone (c b : Dev nD) : sProp 𝕄 :=
  if b = c then iprop(recvPts c c (Gof pair c) ∗ ∃ f, sendPts c c f) else cred (tallyAt (sendCell c b) () N)
def sendSt (c : Dev nD) (k : ℕ) : sProp 𝕄 :=
  iprop((∃ W, owes (c : Thread nD τ) (sumFrom (recvDebt c) k) W) ∗ fam (sendRes (F := F) c) (sendDone pair c) k)

theorem sendSem_eq (k : Dev nD) {off : Fin 1 → ℕ} (ho : off = ![k.val]) {hi : ∀ a, off a + S1.size a ≤ S8.size a} :
    ((SemArray.slice cc0_scratch9 (Rect.unit (s := S8) off S1.size hi)).squeeze S_ squeezes_S1_S_).sem = sendS k := by
  subst ho; revert k; decide
theorem recvSem_eq (k : Dev nD) {off : Fin 1 → ℕ} (ho : off = ![k.val]) {hi : ∀ a, off a + S1.size a ≤ S8.size a} :
    ((SemArray.slice cc0_scratch10 (Rect.unit (s := S8) off S1.size hi)).squeeze S_ squeezes_S1_S_).sem = recvS k := by
  subst ho; revert k; decide

/-- The copy itself, its operands given by equations. -/
theorem wp_send_slot (c b n : Dev nD) (hne : b ≠ c) (hn : n = b) {src : Memref sig .tc .vmem S64x1024 .bf16} (hs : src = slotOf sendM b)
    {dst : Memref sig (Dev.tc n : Thread nD τ).2.kind .vmem S64x1024 .bf16} (hd : dst = slotOf recvM c)
    {ss rs : DmaSem sig} (hss : ss = sendS b) (hrs : rs = recvS c)
    {hsc : dst.view.ref.isScScratch = false} {hsrc : src.view.WordExact} {hdst : dst.view.WordExact}
    {hsem : DmaTarget.Typed .vmem (.dma rs) (.remote (Dev.tc n : Thread nD τ) dst (.dma ss) hsc)}
    {α : Type} {Q : α → sProp 𝕄} {K : Prog (TpuEff nD τ sig (Elt F) Λ₀ .tc) α}
    {fs : Buf (Elt F) ((c : Thread nD τ).loc cc0_scratch7)} {w : (slotRect b).shape.Idx → Elt F .bf16} (hw : w = pair c b)
    {fd : Buf (Elt F) ((b : Thread nD τ).loc cc0_scratch8)} (O : CellTallies nD τ sig Unit) {W : Waits sig Unit} :
    iprop(records (Gof pair) Kn ∗ sendPts c b ((sendM.access (slotRect b) : View sig .tc _ _ _).write (Elt F) fs w Finset.univ) ∗ recvPts b c fd
        ∗ owes (c : Thread nD τ) (O + tallyAt (recvCell b c) () N) W ∗ dutyTok ER (sendCell c b) 0 c ∗ dutyTok ER (recvCell b c) 0 c)
      ⊢ iprop(((cred (tallyAt (sendCell c b) () N) ∗ owes (c : Thread nD τ) O W) -∗ WP c K Q)
          -∗ WP c (Prog.lift (.enqueueDma src (.remote (Dev.tc n : Thread nD τ) dst (.dma ss) hsc) (.dma rs) hsrc hdst hsem) >>= fun _ => K) Q) := by
  subst hn hs hd hss hrs
  iintro ⟨#HR, Hs, Hd, HO, Ht1, Ht2⟩ Hk
  iapply (Rounds.wp_send_pointsTo 𝒱₀ ER (rd (Gof pair)) (c : Thread nD τ) none (κ₁ := Kn (c, some (false, n))) (κ₂ := Kn (n, some (true, c)))
    (r₁ := 0) (r₂ := 0) (d₁ := c) (d₂ := c) (fd := fd) (fs := (sendM.access (slotRect n) : View sig .tc _ _ _).write (Elt F) fs w Finset.univ) (q := fullShare)
    (by rw [duties_send _ hne]; exact Finset.mem_singleton_self _) (by rw [duties_recv _ hne.symm]; exact Finset.mem_singleton_self _)
    () () N (by exact credit_recv c) (amount_dma (Gof pair) c c _) (amount_dma (Gof pair) n c _) O rfl (W := W)
    (by
      rw [show (rd (Gof pair)).payload (sendCell c n) 0 c = iprop(∃ f, sendPts c n f) from payload_kcell (Gof pair) c c (some (false, n)), slot_set_send]
      iintro H; iexists _; unfold sendPts; iexact H)
    (by
      rw [show (rd (Gof pair)).payload (recvCell n c) 0 c = recvPts n c (Gof pair n) from payload_kcell (Gof pair) n c (some (true, c)), slot_set_recv]
      unfold recvPts
      exact Entails.of_eq (pointsTo_congr (landed_eq pair c n hw fd)))) $$ [Hs Hd HO Ht1 Ht2]
  · isplitr; · iapply (inv_at (Gof pair) Kn (c, some (false, n))); iexact HR
    isplitr; · iapply (inv_at (Gof pair) Kn (n, some (true, c))); iexact HR
    isplitl [Hs]; · rw [slot_set_send]; unfold sendPts; iexact Hs
    isplitl [Hd]; · rw [slot_set_recv]; unfold recvPts; iexact Hd
    isplitl [HO]; · iexact HO
    isplitl [Ht1]; · iexact Ht1
    isplitr; · iapply (reached_at (Gof pair) Kn (c, some (false, n))); iexact HR
    isplitl [Ht2]; · iexact Ht2
    iapply (reached_at (Gof pair) Kn (n, some (true, c))); iexact HR
  iexact Hk

/-- A slot, named by an offset. -/
abbrev slotAt (M : Memref sig .tc .vmem S8x64x1024 .bf16) (off : Fin 3 → ℕ) (hi : ∀ a, off a + S1x64x1024.size a ≤ S8x64x1024.size a) :
    Memref sig .tc .vmem S64x1024 .bf16 :=
  (M.slice (Rect.unit (s := S8x64x1024) off S1x64x1024.size hi) (fun _ => rfl)).squeeze S64x1024 squeezes_S1x64x1024_S64x1024
abbrev semAt (A : DmaSems sig S8) (off : Fin 1 → ℕ) (hi : ∀ a, off a + S1.size a ≤ S8.size a) : DmaSem sig :=
  ((SemArray.slice A (Rect.unit (s := S8) off S1.size hi)).squeeze S_ squeezes_S1_S_).sem

theorem step_block (c b : Dev nD) {n m : ℕ} (hn : n = b.val) (hm : m = b.val + 1) {C1 C2 : Prop} [Decidable C1] [Decidable C2]
    (hC1 : C1 ↔ b = c) (hC2 : C2 ↔ b ≠ c)
    {or1 or2 os1 os2 od : Fin 3 → ℕ} (hor1 : or1 = ![b.val, 0, 0]) (hor2 : or2 = ![b.val, 0, 0]) (hos1 : os1 = ![b.val, 0, 0]) (hos2 : os2 = ![b.val, 0, 0]) (hod : od = ![c.val, 0, 0])
    {oss ors : Fin 1 → ℕ} (hoss : oss = ![b.val]) (hors : ors = ![c.val])
    {ir1 : ∀ a, or1 a + S1x64x1024.size a ≤ S8x64x1024.size a} {ir2 : ∀ a, or2 a + S1x64x1024.size a ≤ S8x64x1024.size a}
    {is1 : ∀ a, os1 a + S1x64x1024.size a ≤ S8x64x1024.size a} {is2 : ∀ a, os2 a + S1x64x1024.size a ≤ S8x64x1024.size a}
    {iid : C2 → ∀ a, od a + S1x64x1024.size a ≤ S8x64x1024.size a}
    {iss : ∀ a, oss a + S1.size a ≤ S8.size a} {irs : C2 → ∀ a, ors a + S1.size a ≤ S8.size a}
    {l1 : recvM.view.LoadsAt (Rect.unit (s := S8x64x1024) or1 S1x64x1024.size ir1).toLoadRect} {l2 : sendM.view.LoadsAt (Rect.unit (s := S8x64x1024) os1 S1x64x1024.size is1).toLoadRect}
    {w1 : (Rect.unit (s := S8x64x1024) or2 S1x64x1024.size ir2).shape.Idx → Elt F .bf16} {w2 : (Rect.unit (s := S8x64x1024) os2 S1x64x1024.size is2).shape.Idx → Elt F .bf16}
    (hw1 : w1 = pair c b) (hw2 : w2 = pair c b)
    {x1 : (recvM.access (Rect.unit (s := S8x64x1024) or2 S1x64x1024.size ir2)).Stores Finset.univ} {m1}
    {x2 : (sendM.access (Rect.unit (s := S8x64x1024) os2 S1x64x1024.size is2)).Stores Finset.univ} {m2}
    {dv : C2 → Dev nD} (hdv : ∀ h, dv h = b) {hsc : ∀ h : C2, (slotAt recvM od (iid h)).view.ref.isScScratch = false}
    {h1 : C2 → (slotAt sendM os2 is2).view.WordExact} {h2 : ∀ h : C2, (slotAt recvM od (iid h)).view.WordExact}
    {h3 : ∀ h : C2, DmaTarget.Typed .vmem (.dma (semAt cc0_scratch10 ors (irs h))) (.remote (Dev.tc (dv h) : Thread nD τ) (slotAt recvM od (iid h)) (.dma (semAt cc0_scratch9 oss iss)) (hsc h))}
    {α : Type} {Q : α → sProp 𝕄} {K : Prog (TpuEff nD τ sig (Elt F) Λ₀ .tc) α} :
    iprop(records (Gof pair) Kn ∗ sendSt pair c n)
      ⊢ iprop((sendSt pair c m -∗ WP c K Q) -∗ WP c
          (let J : Prog (TpuEff nD τ sig (Elt F) Λ₀ .tc) α := dite C2 (fun h =>
              Prog.lift (.load sendM (Rect.unit (s := S8x64x1024) os1 S1x64x1024.size is1).toLoadRect l2) >>= fun _ =>
              Prog.lift (.store sendM (Rect.unit (s := S8x64x1024) os2 S1x64x1024.size is2) w2 Finset.univ x2 m2) >>= fun _ =>
              Prog.lift (.enqueueDma (slotAt sendM os2 is2) (.remote (Dev.tc (dv h) : Thread nD τ) (slotAt recvM od (iid h)) (.dma (semAt cc0_scratch9 oss iss)) (hsc h))
                (.dma (semAt cc0_scratch10 ors (irs h))) (h1 h) (h2 h) (h3 h)) >>= fun _ => K) (fun _ => K)
           dite C1 (fun _ =>
              Prog.lift (.load recvM (Rect.unit (s := S8x64x1024) or1 S1x64x1024.size ir1).toLoadRect l1) >>= fun _ =>
              Prog.lift (.store recvM (Rect.unit (s := S8x64x1024) or2 S1x64x1024.size ir2) w1 Finset.univ x1 m1) >>= fun _ => J) (fun _ => J)) Q) := by
  subst hn hm hor1 hor2 hos1 hos2 hod
  unfold sendSt
  iintro ⟨#HR, ⟨%W, HO⟩, Hf⟩ Hk
  ihave Hf' := (fam_step (sendRes (F := F) c) (sendDone pair c) b) $$ Hf
  icases Hf' with ⟨HA, Hf⟩
  rw [sumFrom_succ (recvDebt c) b]
  by_cases h : b = c
  · rw [dif_pos (hC1.mpr h), dif_neg (fun h' => hC2.mp h' h), show recvDebt c b = 0 from if_pos h, add_zero]
    ihave HA' := (Entails.of_eq (show sendRes (F := F) c b = iprop((∃ f, recvPts c c f) ∗ ∃ f, sendPts c c f) from if_pos h)) $$ HA
    icases HA' with ⟨⟨%f, Hr⟩, Hs⟩
    unfold recvPts
    subst h
    iapply (ld_on b (access_set_recv b) (f := f)) $$ Hr
    iintro Hr
    iapply (st_on b (access_set_recv b) (f := f)) $$ Hr
    iintro Hr
    iapply Hk
    isplitl [HO]; · iexists W; iexact HO
    iapply Hf
    iapply (Entails.of_eq (show sendDone pair b b = iprop(recvPts b b (Gof pair b) ∗ ∃ f, sendPts b b f) from if_pos rfl).symm)
    isplitl [Hr]
    · unfold recvPts
      iapply (Entails.of_eq (pointsTo_congr (kept_eq pair b (f := f) hw1))); iexact Hr
    iexact Hs
  · have h2 := hC2.mpr h
    rw [dif_neg (fun h' => h (hC1.mp h')), dif_pos h2, show recvDebt c b = tallyAt (recvCell b c) () N from if_neg h]
    ihave HA' := (Entails.of_eq (show sendRes (F := F) c b = iprop((∃ f, sendPts c b f) ∗ (∃ f, recvPts b c f) ∗ dutyTok ER (sendCell c b) 0 c ∗ dutyTok ER (recvCell b c) 0 c) from if_neg h)) $$ HA
    icases HA' with ⟨⟨%f, Hs⟩, ⟨%fd, Hr⟩, Ht1, Ht2⟩
    ihave Hs := (show (sendPts c b f : sProp 𝕄) ⊢ ((c : Thread nD τ).loc cc0_scratch7) ↦[slotSet b]{fullShare} f from BI.Entails.refl _) $$ Hs
    iapply (ld_on c (access_set_send b) (f := f)) $$ Hs
    iintro Hs
    iapply (st_on c (access_set_send b) (f := f)) $$ Hs
    iintro Hs
    iapply (wp_send_slot pair Kn c b (dv h2) h (hdv h2) rfl rfl (sendSem_eq b hoss) (recvSem_eq c hors) hw2 (fd := fd) (fs := f) (sumFrom (recvDebt c) (b.val + 1)) (W := W)) $$ [HO Hs Hr Ht1 Ht2]
    · isplitr; · iexact HR
      isplitl [Hs]; · unfold sendPts; iexact Hs
      isplitl [Hr]; · iexact Hr
      isplitl [HO]; · iexact HO
      isplitl [Ht1] <;> iassumption
    iintro ⟨Hc, HO⟩
    iapply Hk
    isplitl [HO]; · iexists W; iexact HO
    iapply Hf
    iapply (Entails.of_eq (show sendDone pair c b = cred (tallyAt (sendCell c b) () N) from if_neg h).symm)
    iexact Hc

/-! ## The waits for the arrivals -/

/-- What the wait at slot `s` takes. -/
def arrRes (c s : Dev nD) : sProp 𝕄 :=
  iprop((if s = c then recvPts c c (Gof pair c) else cred (tallyAt (recvCell c s) () N)) ∗ atPos ER (recvCell c s) 0 ∅ 0)
/-- What it leaves: the slot at what has arrived, the semaphore at zero. -/
def arrDone (c s : Dev nD) : sProp 𝕄 := iprop(recvPts c s (Gof pair c) ∗ semVal (recvCell c s) 0)
def arrSt (c : Dev nD) (k : ℕ) : sProp 𝕄 := iprop((∃ W, owes (c : Thread nD τ) 0 W) ∗ fam (arrRes pair c) (arrDone pair c) k)

theorem step_arrive (c s : Dev nD) {n m : ℕ} (hn : n = s.val) (hm : m = s.val + 1) {C : Prop} [Decidable C] (hC : C ↔ s ≠ c)
    {off : Fin 1 → ℕ} (ho : off = ![s.val]) {hi : ∀ a, off a + S1.size a ≤ S8.size a}
    {src dst : Memref sig .tc .vmem S64x1024 .bf16} (hcr : dst.view.dmaCredit = N) {h1 : src.view.WordExact} {h2 : dst.view.WordExact}
    {α : Type} {Q : α → sProp 𝕄} {K : Prog (TpuEff nD τ sig (Elt F) Λ₀ .tc) α} :
    iprop(records (Gof pair) Kn ∗ arrSt pair c n)
      ⊢ iprop((arrSt pair c m -∗ WP c K Q) -∗ WP c (dite C (fun _ =>
          Prog.lift (.waitDma2 ((SemArray.slice cc0_scratch10 (Rect.unit (s := S8) off S1.size hi)).squeeze S_ squeezes_S1_S_).sem src dst h1 h2) >>= fun _ => K) (fun _ => K)) Q) := by
  subst hn hm
  rw [recvSem_eq s ho]
  unfold arrSt
  iintro ⟨#HR, ⟨%W, HO⟩, Hf⟩ Hk
  ihave Hf' := (fam_step (arrRes pair c) (arrDone pair c) s) $$ Hf
  icases Hf' with ⟨HA, Hf⟩
  ihave HA := (show arrRes pair c s ⊢ iprop((if s = c then recvPts c c (Gof pair c) else cred (tallyAt (recvCell c s) () N)) ∗ atPos ER (recvCell c s) 0 ∅ 0) from BI.Entails.refl _) $$ HA
  by_cases h : s = c
  · rw [dif_neg (fun h' => hC.mp h' h), if_pos h]
    subst h
    icases HA with ⟨Hr, Hat⟩
    imod (cell_close ER (rd (Gof pair)) (κ := Kn (s, some (true, s))) (Set.mem_univ _) (fun h => h) (R := 0) (duties_recv_self (Gof pair) s)) $$ [Hat] with Hv
    · isplitr; · iapply (inv_at (Gof pair) Kn (s, some (true, s))); iexact HR
      iexact Hat
    iapply Hk
    isplitl [HO]; · iexists W; iexact HO
    iapply Hf
    unfold arrDone
    isplitl [Hr] <;> iassumption
  · rw [dif_pos (hC.mpr h), if_neg h]
    icases HA with ⟨Hc, Hat⟩
    iapply (Rounds.wp_wait_rest_token 𝒱₀ ER (rd (Gof pair)) (c : Thread nD τ) none (κ := Kn (c, some (true, s)))
        (wpE_waitDma2_eq 𝒱₀ (c : Thread nD τ) none Set.univ) (Set.mem_univ _) () (O := 0) (W := W) (R := 0) (m := 0) (T := ∅)
        (by rw [Nat.zero_add, hcr]; exact (expect_recv (Gof pair) h).symm)) $$ [Hc HO Hat]
    · isplitr; · iapply (inv_at (Gof pair) Kn (c, some (true, s))); iexact HR
      isplitl [Hc]; · rw [hcr]; iexact Hc
      isplitl [HO]; · iexact HO
      isplitr; · rw [MayWait_zero]; iempintro
      iexact Hat
    iintro ⟨HO, Hat, -, Hpay⟩
    ihave Hp := (Entails.of_eq (rest_recv (Gof pair) h)) $$ Hpay
    imod (cell_close ER (rd (Gof pair)) (κ := Kn (c, some (true, s))) (Set.mem_univ _) (fun h => h) (R := 0 + 1) (duties_later (Gof pair) (recvCell c s))) $$ [Hat] with Hv
    · isplitr; · iapply (inv_at (Gof pair) Kn (c, some (true, s))); iexact HR
      iexact Hat
    iapply Hk
    isplitl [HO]; · iexists _; iexact HO
    iapply Hf
    unfold arrDone
    isplitl [Hp] <;> iassumption

/-! ## The waits for the departures -/

/-- What the wait for block `b`'s departure takes. -/
def depRes (c b : Dev nD) : sProp 𝕄 :=
  iprop((if b = c then iprop(∃ f, sendPts c b f) else cred (tallyAt (sendCell c b) () N)) ∗ atPos ER (sendCell c b) 0 ∅ 0)
/-- What it leaves: the slot back, the semaphore at zero. -/
def depDone (c b : Dev nD) : sProp 𝕄 := iprop((∃ f, sendPts c b f) ∗ semVal (sendCell c b) 0)
def depSt (c : Dev nD) (k : ℕ) : sProp 𝕄 := iprop((∃ W, owes (c : Thread nD τ) 0 W) ∗ fam (depRes (F := F) c) (depDone c) k)

theorem step_depart (c b : Dev nD) {n m : ℕ} (hn : n = b.val) (hm : m = b.val + 1) {C : Prop} [Decidable C] (hC : C ↔ b ≠ c)
    {off : Fin 1 → ℕ} (ho : off = ![b.val]) {hi : ∀ a, off a + S1.size a ≤ S8.size a}
    {src dst : Memref sig .tc .vmem S64x1024 .bf16} (hcr : dst.view.dmaCredit = N) {h1 : src.view.WordExact} {h2 : dst.view.WordExact}
    {α : Type} {Q : α → sProp 𝕄} {K : Prog (TpuEff nD τ sig (Elt F) Λ₀ .tc) α} :
    iprop(records (Gof pair) Kn ∗ depSt (F := F) c n)
      ⊢ iprop((depSt c m -∗ WP c K Q) -∗ WP c (dite C (fun _ =>
          Prog.lift (.waitDma2 ((SemArray.slice cc0_scratch9 (Rect.unit (s := S8) off S1.size hi)).squeeze S_ squeezes_S1_S_).sem src dst h1 h2) >>= fun _ => K) (fun _ => K)) Q) := by
  subst hn hm
  rw [sendSem_eq b ho]
  unfold depSt
  iintro ⟨#HR, ⟨%W, HO⟩, Hf⟩ Hk
  ihave Hf' := (fam_step (depRes (F := F) c) (depDone c) b) $$ Hf
  icases Hf' with ⟨HA, Hf⟩
  ihave HA := (show depRes (F := F) c b ⊢ iprop((if b = c then iprop(∃ f, sendPts c b f) else cred (tallyAt (sendCell c b) () N)) ∗ atPos ER (sendCell c b) 0 ∅ 0) from BI.Entails.refl _) $$ HA
  by_cases h : b = c
  · rw [dif_neg (fun h' => hC.mp h' h), if_pos h]
    subst h
    icases HA with ⟨Hr, Hat⟩
    imod (cell_close ER (rd (Gof pair)) (κ := Kn (b, some (false, b))) (Set.mem_univ _) (fun h => h) (R := 0) (duties_send_self (Gof pair) b)) $$ [Hat] with Hv
    · isplitr; · iapply (inv_at (Gof pair) Kn (b, some (false, b))); iexact HR
      iexact Hat
    iapply Hk
    isplitl [HO]; · iexists W; iexact HO
    iapply Hf
    unfold depDone
    isplitl [Hr] <;> iassumption
  · rw [dif_pos (hC.mpr h), if_neg h]
    icases HA with ⟨Hc, Hat⟩
    iapply (Rounds.wp_wait_rest_token 𝒱₀ ER (rd (Gof pair)) (c : Thread nD τ) none (κ := Kn (c, some (false, b)))
        (wpE_waitDma2_eq 𝒱₀ (c : Thread nD τ) none Set.univ) (Set.mem_univ _) () (O := 0) (W := W) (R := 0) (m := 0) (T := ∅)
        (by rw [Nat.zero_add, hcr]; exact (expect_send (Gof pair) h).symm)) $$ [Hc HO Hat]
    · isplitr; · iapply (inv_at (Gof pair) Kn (c, some (false, b))); iexact HR
      isplitl [Hc]; · rw [hcr]; iexact Hc
      isplitl [HO]; · iexact HO
      isplitr; · rw [MayWait_zero]; iempintro
      iexact Hat
    iintro ⟨HO, Hat, -, Hpay⟩
    ihave Hp := (Entails.of_eq (rest_send (Gof pair) h)) $$ Hpay
    imod (cell_close ER (rd (Gof pair)) (κ := Kn (c, some (false, b))) (Set.mem_univ _) (fun h => h) (R := 0 + 1) (duties_later (Gof pair) (sendCell c b))) $$ [Hat] with Hv
    · isplitr; · iapply (inv_at (Gof pair) Kn (c, some (false, b))); iexact HR
      iexact Hat
    iapply Hk
    isplitl [HO]; · iexists _; iexact HO
    iapply Hf
    unfold depDone
    isplitl [Hp] <;> iassumption

end Steps
end Cert.KernelIdealProof
end
-- ==== Proof.KernelIdealContents.lean ====
/-
What the kernel's buffers hold, from the three inputs of every device: the ranks, the slots, the gathered rows, the
products with the experts' weights, the block each device computes for each other one, and the result. Each buffer
filled block by block is given at once, as a function of the block's number; the kernel's own text for one block is that
function at the block's number.
-/
module

public import proofs.«01_k».proof.Proof.KernelIdealSteps

@[expose] public section

noncomputable section

namespace Cert.KernelIdealProof

open Cert.KernelIdeal Cert.KernelIdeal.Gen
open Idealize.ShloMosaic
open Idealize.ShloMosaic.TcCoe

variable {F : FTy → Type} [FloatOps F]

/-- The inputs, device by device: each token's expert, the tokens, the device's experts' weights. -/
structure Ins (F : FTy → Type) where
  e : Dev nD → Vec F S2048x1 .i32
  x : Dev nD → Vec F S2048x1024 .bf16
  w : Dev nD → Vec F S8x1024x1024 .bf16

/-- The device's number, as the kernel computes it. -/
def word (c : Dev nD) : BitVec 32 := Scalar.remsi (Scalar.divsi (Dev.word c) 1#32) 8#32

theorem rows64_slices : ∀ b : Dev nD, S2048x64.Slices ![256 * b.val, 0] S256x64 := by decide
theorem rows1_slices : ∀ b : Dev nD, S2048x1.Slices ![256 * b.val, 0] S256x1 := by decide
theorem row_slices : ∀ b : Dev nD, S8x64.Slices ![b.val, 0] S1x64 := by decide
theorem rows1_inb : ∀ (b : Dev nD) (a : Fin 2), (![256 * b.val, 0] : Fin 2 → ℕ) a + S256x1.size a ≤ S2048x1.size a := by decide
theorem rows8_inb : ∀ (b : Dev nD) (a : Fin 2), (![256 * b.val, 0] : Fin 2 → ℕ) a + S256x8.size a ≤ S2048x8.size a := by decide
theorem rows32_inb : ∀ (l : Fin 8) (a : Fin 2), (![32 * l.val, 0] : Fin 2 → ℕ) a + S32x1024.size a ≤ S256x1024.size a := by decide
theorem expert_inb : ∀ (l : Fin 8) (a : Fin 3), (![l.val, 0, 0] : Fin 3 → ℕ) a + S1x1024x1024.size a ≤ S8x1024x1024.size a := by decide

/-- Rows `256 b … 256 b + 255` of a column. -/
abbrev rect1 (b : Dev nD) : Rect S2048x1 := Rect.unit ![256 * b.val, 0] S256x1.size (rows1_inb b)
abbrev rect8 (b : Dev nD) : Rect S2048x8 := Rect.unit ![256 * b.val, 0] S256x8.size (rows8_inb b)
abbrev rect32 (l : Fin 8) : Rect S256x1024 := Rect.unit ![32 * l.val, 0] S32x1024.size (rows32_inb l)
abbrev rectW (l : Fin 8) : Rect S8x1024x1024 := Rect.unit ![l.val, 0, 0] S1x1024x1024.size (expert_inb l)
def rows1 (b : Dev nD) {α : Type} (f : S2048x1.Idx → α) : S256x1.Idx → α := fun j => f ((rect1 b).emb j)
def rows8 (b : Dev nD) {α : Type} (f : S2048x8.Idx → α) : S256x8.Idx → α := fun j => f ((rect8 b).emb j)
def rows32 (l : Fin 8) {α : Type} (f : S256x1024.Idx → α) : S32x1024.Idx → α := fun j => f ((rect32 l).emb j)
def expertAt (l : Fin 8) {α : Type} (f : S8x1024x1024.Idx → α) : S1x1024x1024.Idx → α := fun j => f ((rectW l).emb j)

/-- A sign test as the kernel's floor division writes it. -/
abbrev pos8 : BitVec 32 := Scalar.extui (Scalar.cmpi .sgt 8#32 0#32)
abbrev neg8 : BitVec 32 := Scalar.extui (Scalar.cmpi .slt 8#32 0#32)

/-- The two tables of counting columns the kernel compares with. -/
def iota256 : IVec S2048x256 32 := iota .tc S2048x256 32 [1] iota_S2048x256_d1_w32
def iota64 : IVec S256x64 32 := iota .tc S256x64 32 [1] iota_S256x64_d1_w32

/-- The ranks of block `b`: for each token, how many earlier tokens go to its expert. -/
def rankB (oh : FVec F S2048x64 .bf16) (pre : FVec F S8x64 .f32) (b : Dev nD) : IVec S256x1 32 :=
  have ohb : FVec F S256x64 .bf16 := extractStridedSlice S256x64 ![256 * b.val, 0] oh (rows64_slices b)
  shapeCast S256x1 (fptosi 32 (shapeCast S256x1 (multiReduction .add [1] S256
    (mulf (addf (matmul dot_S256x256_S256x64_S256x64_1_0_0_1_n_n none (k0_pay2 (F := F)) ohb (constant S256x64 .f32 0x00000000#32))
        (broadcastTo S256x64 (extractStridedSlice S1x64 ![b.val, 0] pre (row_slices b)) broadcasts_S1x64_S256x64))
      (extf .f32 ohb bitsLt_bf16_f32)) 0x00000000#32 reduces_S256x64_S256 (.inl rfl) rfl) shapeCasts_S256_S256x1)) shapeCasts_S256x1_S256x1

/-- A row's block and its place there. -/
def blockOf (i : S2048x1.Idx) : Dev nD := ⟨(i (0 : Fin 2)).val / 256, by have : (i (0 : Fin 2)).val < 2048 := (i (0 : Fin 2)).isLt; show _ < 8; omega⟩
def withinOf (i : S2048x1.Idx) : S256x1.Idx := fun
  | (0 : Fin 2) => (⟨(i (0 : Fin 2)).val % 256, Nat.mod_lt _ (by decide)⟩ : Fin 256)
  | (1 : Fin 2) => (0 : Fin 1)
def expertOf (i : S256x1024.Idx) : Fin 8 := ⟨(i (0 : Fin 2)).val / 32, by have : (i (0 : Fin 2)).val < 256 := (i (0 : Fin 2)).isLt; show _ < 8; omega⟩
def slotRow (i : S256x1024.Idx) : S32x1024.Idx := fun
  | (0 : Fin 2) => (⟨(i (0 : Fin 2)).val % 32, Nat.mod_lt _ (by decide)⟩ : Fin 32)
  | (1 : Fin 2) => (i (1 : Fin 2) : Fin 1024)

section Contents
variable (I : Ins F) (c : Dev nD)

/-- The prefix counts of the blocks. -/
def pre : FVec F S8x64 .f32 := k0_pay6 (k0_pay4 (I.e c)) (k0_pay5 (F := F))
def rank : Vec F S2048x1 .i32 := fun i => rankB (k0_pay4 (I.e c)) (pre I c) (blockOf i) (withinOf i)
def keptBit : IVec S2048x1 1 := k0_pay16 (rank I c)
def src : IVec S2048x1 32 := k0_pay22 (k0_pay3 (I.e c)) 8#32 (k0_pay17 (k0_pay3 (I.e c))) (k0_pay18 (k0_pay3 (I.e c))) pos8 neg8
def s8 : FVec F S2048x8 .bf16 :=
  k0_pay20 (k0_pay3 (I.e c)) (keptBit I c) 8#32 (k0_pay17 (k0_pay3 (I.e c))) (k0_pay18 (k0_pay3 (I.e c))) pos8 neg8
def kept : IVec S2048x1 32 := k0_pay21 (keptBit I c)
def slot : IVec S2048x1 32 := k0_pay23 (word c) (k0_pay3 (I.e c)) (rank I c) (keptBit I c)
/-- The tokens of the device's experts, gathered into their slots. -/
def xg : FVec F S256x1024 .f32 := k0_pay24 (slot I c) iota256 (k0_pay1 (I.x c))
def ysB (l : Fin 8) : FVec F S32x1024 .bf16 := k0_pay25 (rows32 l (xg I c)) (expertAt l (I.w c))
def ys : FVec F S256x1024 .bf16 := fun i => ysB I c (expertOf i) (slotRow i)

/-- The rows of block `b`, taken back from the slots. -/
def blk (b : Dev nD) : FVec F S256x1024 .bf16 :=
  truncf .bf16 (matmul dot_S256x256_S256x1024_S256x1024_1_0_0_1_n_n none
    (truncf .bf16 (sitofp .f32 (extui 32 (cmpi .eq
      (broadcastTo S256x256 (extractStridedSlice S256x1 ![256 * b.val, 0] (slot I c) (rows1_slices b)) broadcasts_S256x1_S256x256)
      (iota .tc S256x256 32 [1] iota_S256x256_d1_w32)) natLt_1_32)) bitsLt_bf16_f32)
    (ys I c) (constant S256x1024 .f32 0x00000000#32)) bitsLt_bf16_f32
/-- Each row's place among the kept rows of its block with the same source. -/
def posB (b : Dev nD) : IVec S256x1 32 := k0_pay35 (k0_pay2 (F := F)) (rows8 b (s8 I c))
/-- The block device `c` computes for device `b`. -/
def pair (b : Dev nD) : S1x64x1024.Idx → Elt F .bf16 :=
  k0_pay38 (word c) iota64 (blk I c b) (posB I c b) (rows1 b (src I c)) (rows1 b (kept I c))

/-- Which row of source `s`'s block each row of the result takes. -/
def bmat (s : BitVec 32) : FVec F S256x64 .bf16 :=
  truncf .bf16 (sitofp .f32 (extui 32 (andi (andi (cmpi .eq (broadcastTo S256x64 (posB I c c) broadcasts_S256x1_S256x64) iota64)
      (broadcastTo S256x64 (cmpi .eq (rows1 c (src I c)) (broadcast S256x1 s)) broadcasts_S256x1_S256x64))
    (broadcastTo S256x64 (k0_pay71 (F := F) (posB I c c) (rows1 c (kept I c))) broadcasts_S256x1_S256x64)) natLt_1_32)) bitsLt_bf16_f32
def part (s : BitVec 32) (r : S1x64x1024.Idx → Elt F .bf16) : FVec F S256x1024 .f32 :=
  matmul dot_S256x64_S64x1024_S256x1024_1_0_0_1_n_n none (bmat I c s) (shapeCast S64x1024 r shapeCasts_S1x64x1024_S64x1024)
    (constant S256x1024 .f32 0x00000000#32)
def acc2 : FVec F S256x1024 .f32 :=
  addf (addf (broadcast S256x1024 (Scalar.ofBits .f32 0x00000000#32)) (part I c 0#32 (pair I 0 c))) (part I c 1#32 (pair I 1 c))
def acc5 : FVec F S256x1024 .f32 :=
  addf (addf (addf (acc2 I c) (part I c 2#32 (pair I 2 c))) (part I c 3#32 (pair I 3 c))) (part I c 4#32 (pair I 4 c))
/-- The result. -/
def out : FVec F S256x1024 .f32 :=
  addf (addf (addf (acc5 I c) (part I c 5#32 (pair I 5 c))) (part I c 6#32 (pair I 6 c))) (part I c 7#32 (pair I 7 c))

end Contents
end Cert.KernelIdealProof
end
-- ==== Proof.KernelIdealFill.lean ====
/-
The loads and stores of whole buffers and of their blocks, and what a buffer holds while it is filled block by block.
-/
module

public import proofs.«01_k».proof.Proof.KernelIdealContents

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The buffers -/

abbrev eM : Memref sig .tc .vmem S2048x1 .i32 := Memref.whole cc0_stg0_0
abbrev xM : Memref sig .tc .vmem S2048x1024 .bf16 := Memref.whole cc0_stg1_0
abbrev wM : Memref sig .tc .vmem S8x1024x1024 .bf16 := Memref.whole cc0_stg2_0
abbrev oM : Memref sig .tc .vmem S256x1024 .f32 := Memref.whole cc0_stg3_0
abbrev xbfM : Memref sig .tc .vmem S2048x1024 .bf16 := Memref.whole cc0_scratch0
abbrev xgM : Memref sig .tc .vmem S256x1024 .f32 := Memref.whole cc0_scratch1
abbrev ysM : Memref sig .tc .vmem S256x1024 .bf16 := Memref.whole cc0_scratch2
abbrev rankM : Memref sig .tc .vmem S2048x1 .i32 := Memref.whole cc0_scratch3
abbrev s8M : Memref sig .tc .vmem S2048x8 .bf16 := Memref.whole cc0_scratch4
abbrev keptM : Memref sig .tc .vmem S2048x1 .i32 := Memref.whole cc0_scratch5
abbrev srcM : Memref sig .tc .vmem S2048x1 .i32 := Memref.whole cc0_scratch6

/-- A whole buffer of device `c`, holding `f`. -/
abbrev pts (c : Dev nD) (b : Ref sig .tc) (f : Buf (Elt F) ((c : Thread nD τ).loc b)) : sProp 𝕄 :=
  ((c : Thread nD τ).loc b) ↦{fullShare} f

theorem ret (c : Dev nD) {α : Type} {Q : α → sProp 𝕄} {a : α} : Q a ⊢ WP c (pure a) Q := by
  show Q a ⊢ wp _ _ _ (Prog.ret a) Q
  rw [wp_ret]
  iintro H
  imodintro
  iexact H

/-- The end of a part, its result written as `b`. -/
theorem ret_as (c : Dev nD) {α : Type} {Q : α → sProp 𝕄} {a : α} (b : α) (h : b = a) : Q b ⊢ WP c (pure a) Q := by
  subst h; exact ret c

theorem did (c : Dev nD) {α : Type} {Q : α → sProp 𝕄} {k : Dev nD → Prog (TpuEff nD τ sig (Elt F) Λ₀ .tc) α} :
    WP c (k c) Q ⊢ WP c (Prog.lift .deviceId >>= k) Q := by
  show wp frame (wpE (defs₀ (F := F)) 𝒱₀ (c : Thread nD τ) none) Set.univ (k c) Q ⊢ wp frame (wpE (defs₀ (F := F)) 𝒱₀ (c : Thread nD τ) none) Set.univ (.op .deviceId k) Q
  rw [wp_deviceId]

section LoadStore
variable (c : Dev nD) {α : Type}

theorem ld_eq {Q : α → sProp 𝕄} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {f : Buf (Elt F) (M.view.loc (c : Thread nD τ))}
    {v : r.shape.Idx → Elt F e} (hv : M.view.readAt (Elt F) r f = v) :
    (M.view.loc (c : Thread nD τ) ↦{fullShare} f)
      ⊢ iprop(((M.view.loc (c : Thread nD τ) ↦{fullShare} f) -∗ WP c (k v) Q) -∗ WP c (Prog.lift (.load M r hl) >>= k) Q) := by
  subst hv; exact ld c

/-- A store that leaves the buffer at `g`. -/
theorem st_eq {Q : α → sProp 𝕄} {cs : CoreSpace} {s : Shape} {e : EltTy} {M : Memref sig .tc cs s e} {r : Rect s} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {f g : Buf (Elt F) ((M.access r).loc (c : Thread nD τ))}
    (hg : (M.access r).write (Elt F) f w Finset.univ = g) :
    ((M.access r).loc (c : Thread nD τ) ↦{fullShare} f)
      ⊢ iprop((((M.access r).loc (c : Thread nD τ) ↦{fullShare} g) -∗ WP c (k ⟨⟩) Q) -∗ WP c (Prog.lift (.store M r w Finset.univ hx hm) >>= k) Q) := by
  subst hg; exact st c

end LoadStore

theorem zero2 : (![0, 0] : Fin 2 → ℕ) = fun _ => 0 := funext fun a => by fin_cases a <;> rfl

/-! ## Blocks of rows read -/

section Rows
theorem read_rows_scratch4 (f : Buf (Elt F) (((0 : Dev nD) : Thread nD τ).loc cc0_scratch4)) (b : Dev nD) :
    s8M.view.readAt (Elt F) (rect8 b).toLoadRect f = rows8 b f := rfl
theorem read_rows_scratch5 (f : Buf (Elt F) (((0 : Dev nD) : Thread nD τ).loc cc0_scratch5)) (b : Dev nD) :
    keptM.view.readAt (Elt F) (rect1 b).toLoadRect f = rows1 b f := rfl
theorem read_rows_scratch6 (f : Buf (Elt F) (((0 : Dev nD) : Thread nD τ).loc cc0_scratch6)) (b : Dev nD) :
    srcM.view.readAt (Elt F) (rect1 b).toLoadRect f = rows1 b f := rfl
theorem read_rows_scratch1 (f : Buf (Elt F) (((0 : Dev nD) : Thread nD τ).loc cc0_scratch1)) (l : Fin 8) :
    xgM.view.readAt (Elt F) (rect32 l).toLoadRect f = rows32 l f := rfl
theorem read_expert (f : Buf (Elt F) (((0 : Dev nD) : Thread nD τ).loc cc0_stg2_0)) (l : Fin 8) :
    wM.view.readAt (Elt F) (rectW l).toLoadRect f = expertAt l f := rfl
theorem read_slot (p : Dev nD → Dev nD → S1x64x1024.Idx → Elt F .bf16) (c s : Dev nD) :
    recvM.view.readAt (Elt F) (slotRect s).toLoadRect (Gof p c) = p s c :=
  funext fun j => Gof_slot p c s j

/-- The rows of the device's own block, at the offset the kernel computes. -/
theorem read_at_own4 (c : Dev nD) {o : Fin 2 → ℕ} (ho : o = ![256 * c.val, 0]) (hi : ∀ a, o a + S256x8.size a ≤ S2048x8.size a)
    (f : Buf (Elt F) (((0 : Dev nD) : Thread nD τ).loc cc0_scratch4)) :
    s8M.view.readAt (Elt F) (Rect.unit (s := S2048x8) o S256x8.size hi).toLoadRect f = rows8 c f := by subst ho; rfl
theorem read_at_own5 (c : Dev nD) {o : Fin 2 → ℕ} (ho : o = ![256 * c.val, 0]) (hi : ∀ a, o a + S256x1.size a ≤ S2048x1.size a)
    (f : Buf (Elt F) (((0 : Dev nD) : Thread nD τ).loc cc0_scratch5)) :
    keptM.view.readAt (Elt F) (Rect.unit (s := S2048x1) o S256x1.size hi).toLoadRect f = rows1 c f := by subst ho; rfl
theorem read_at_own6 (c : Dev nD) {o : Fin 2 → ℕ} (ho : o = ![256 * c.val, 0]) (hi : ∀ a, o a + S256x1.size a ≤ S2048x1.size a)
    (f : Buf (Elt F) (((0 : Dev nD) : Thread nD τ).loc cc0_scratch6)) :
    srcM.view.readAt (Elt F) (Rect.unit (s := S2048x1) o S256x1.size hi).toLoadRect f = rows1 c f := by subst ho; rfl
end Rows

/-! ## Blocks of rows written -/

theorem rect1_emb_within (i : S2048x1.Idx) : (rect1 (blockOf i)).emb (withinOf i) = i := by
  funext a
  apply Fin.ext
  have h : ∀ a : Fin 2, ((rect1 (blockOf i)).emb (withinOf i) a).val = (![256 * (blockOf i).val, 0] : Fin 2 → ℕ) a + 1 * (withinOf i a).val := fun _ => rfl
  fin_cases a
  · refine (h (0 : Fin 2)).trans ?_
    show 256 * ((i (0 : Fin 2)).val / 256) + 1 * ((i (0 : Fin 2)).val % 256) = (i (0 : Fin 2)).val
    omega
  · refine (h (1 : Fin 2)).trans ?_
    have : (i (1 : Fin 2)).val < 1 := (i (1 : Fin 2)).isLt
    show 0 + 1 * 0 = (i (1 : Fin 2)).val
    omega
theorem rect1_mem {b : Dev nD} {i : S2048x1.Idx} (h : i ∈ (rect1 b).set) : blockOf i = b := by
  rw [← Rect.map_emb_univ] at h
  obtain ⟨j, -, rfl⟩ := Finset.mem_map.mp h
  have h0 : ((rect1 b).emb j (0 : Fin 2)).val = 256 * b.val + 1 * (j (0 : Fin 2)).val := rfl
  have h1 : (j (0 : Fin 2)).val < 256 := (j (0 : Fin 2)).isLt
  apply Fin.ext
  show ((rect1 b).emb j (0 : Fin 2)).val / 256 = b.val
  omega
theorem rect32_emb_within (i : S256x1024.Idx) : (rect32 (expertOf i)).emb (slotRow i) = i := by
  funext a
  apply Fin.ext
  have h : ∀ a : Fin 2, ((rect32 (expertOf i)).emb (slotRow i) a).val = (![32 * (expertOf i).val, 0] : Fin 2 → ℕ) a + 1 * (slotRow i a).val := fun _ => rfl
  fin_cases a
  · refine (h (0 : Fin 2)).trans ?_
    show 32 * ((i (0 : Fin 2)).val / 32) + 1 * ((i (0 : Fin 2)).val % 32) = (i (0 : Fin 2)).val
    omega
  · refine (h (1 : Fin 2)).trans ?_
    show 0 + 1 * (i (1 : Fin 2)).val = (i (1 : Fin 2)).val
    omega
theorem rect32_mem {l : Fin 8} {i : S256x1024.Idx} (h : i ∈ (rect32 l).set) : expertOf i = l := by
  rw [← Rect.map_emb_univ] at h
  obtain ⟨j, -, rfl⟩ := Finset.mem_map.mp h
  have h0 : ((rect32 l).emb j (0 : Fin 2)).val = 32 * l.val + 1 * (j (0 : Fin 2)).val := rfl
  have h1 : (j (0 : Fin 2)).val < 32 := (j (0 : Fin 2)).isLt
  apply Fin.ext
  show ((rect32 l).emb j (0 : Fin 2)).val / 32 = l.val
  omega

omit [FloatOps F] in
/-- A store through a rectangle leaves what is outside it. -/
theorem write_off_gen {sp : Space} {s : Shape} {e : EltTy} (M : Memref sig .tc sp s e) (r : Rect s) (f : (M.access r).ty.Contents (Elt F))
    (w : r.shape.Idx → Elt F e) (i) (h : i ∉ r.set.map M.view.emb) : (M.access r).write (Elt F) f w Finset.univ i = f i :=
  View.write_of_not_mem f w Finset.univ (by rw [View.setOn_univ]; intro h'; exact h (by rw [← View.set_slice]; exact h'))

theorem emb_rankM (S : Finset S2048x1.Idx) : S.map rankM.view.emb = S := Finset.map_refl
theorem emb_ysM (S : Finset S256x1024.Idx) : S.map ysM.view.emb = S := Finset.map_refl
theorem write_rank_mem (b : Dev nD) (f : Buf (Elt F) (((0 : Dev nD) : Thread nD τ).loc cc0_scratch3)) (w : S256x1.Idx → Elt F .i32) (i : S2048x1.Idx) (h : blockOf i = b) :
    (rankM.access (rect1 b) : View sig .tc _ _ _).write (Elt F) f w Finset.univ i = w (withinOf i) := by
  subst h
  have := View.write_emb_of_mem (v := (rankM.access (rect1 (blockOf i)) : View sig .tc _ _ _))
    f w (Finset.mem_univ (withinOf i))
  rw [show (rankM.access (rect1 (blockOf i)) : View sig .tc _ _ _).emb (withinOf i) = i from rect1_emb_within i] at this
  exact this
theorem write_rank_off (b : Dev nD) (f : Buf (Elt F) (((0 : Dev nD) : Thread nD τ).loc cc0_scratch3)) (w : S256x1.Idx → Elt F .i32) (i : S2048x1.Idx) (h : blockOf i ≠ b) :
    (rankM.access (rect1 b) : View sig .tc _ _ _).write (Elt F) f w Finset.univ i = f i :=
  write_off_gen rankM (rect1 b) f w i fun h' => h (rect1_mem (by rwa [emb_rankM] at h'))
theorem write_ys_mem (l : Fin 8) (f : Buf (Elt F) (((0 : Dev nD) : Thread nD τ).loc cc0_scratch2)) (w : S32x1024.Idx → Elt F .bf16) (i : S256x1024.Idx) (h : expertOf i = l) :
    (ysM.access (rect32 l) : View sig .tc _ _ _).write (Elt F) f w Finset.univ i = w (slotRow i) := by
  subst h
  have := View.write_emb_of_mem (v := (ysM.access (rect32 (expertOf i)) : View sig .tc _ _ _))
    f w (Finset.mem_univ (slotRow i))
  rw [show (ysM.access (rect32 (expertOf i)) : View sig .tc _ _ _).emb (slotRow i) = i from rect32_emb_within i] at this
  exact this
theorem write_ys_off (l : Fin 8) (f : Buf (Elt F) (((0 : Dev nD) : Thread nD τ).loc cc0_scratch2)) (w : S32x1024.Idx → Elt F .bf16) (i : S256x1024.Idx) (h : expertOf i ≠ l) :
    (ysM.access (rect32 l) : View sig .tc _ _ _).write (Elt F) f w Finset.univ i = f i :=
  write_off_gen ysM (rect32 l) f w i fun h' => h (rect32_mem (by rwa [emb_ysM] at h'))

section Fill
variable (I : Ins F) (c : Dev nD)

/-- The ranks' buffer, its first `n` blocks filled. -/
def rankSt (n : ℕ) : sProp 𝕄 :=
  iprop(∃ f : S2048x1.Idx → Elt F .i32, ⌜∀ i : S2048x1.Idx, (blockOf i).val < n → f i = rank I c i⌝ ∗ pts c cc0_scratch3 f)
/-- The products' buffer, its first `n` experts' rows filled. -/
def ysSt (n : ℕ) : sProp 𝕄 :=
  iprop(∃ f : S256x1024.Idx → Elt F .bf16, ⌜∀ i : S256x1024.Idx, (expertOf i).val < n → f i = ys I c i⌝ ∗ pts c cc0_scratch2 f)

theorem rankSt_end : rankSt I c 8 ⊢ pts c cc0_scratch3 (rank I c) := by
  unfold rankSt
  iintro ⟨%f, %h, H⟩
  have hf : f = rank I c := funext fun i => h i (blockOf i).isLt
  rw [hf]; iexact H
theorem ysSt_end : ysSt I c 8 ⊢ pts c cc0_scratch2 (ys I c) := by
  unfold ysSt
  iintro ⟨%f, %h, H⟩
  have hf : f = ys I c := funext fun i => h i (expertOf i).isLt
  rw [hf]; iexact H
theorem rankSt_zero {f : Buf (Elt F) ((c : Thread nD τ).loc cc0_scratch3)} : pts c cc0_scratch3 f ⊢ rankSt I c 0 := by
  unfold rankSt
  iintro H
  iexists f
  isplitr; · ipureintro; exact fun i h => absurd h (Nat.not_lt_zero _)
  iexact H
theorem ysSt_zero {f : Buf (Elt F) ((c : Thread nD τ).loc cc0_scratch2)} : pts c cc0_scratch2 f ⊢ ysSt I c 0 := by
  unfold ysSt
  iintro H
  iexists f
  isplitr; · ipureintro; exact fun i h => absurd h (Nat.not_lt_zero _)
  iexact H

theorem step_rank (b : Dev nD) {n m : ℕ} (hn : n = b.val) (hm : m = b.val + 1) {o1 o2 : Fin 2 → ℕ} (h1 : o1 = ![256 * b.val, 0]) (h2 : o2 = ![256 * b.val, 0])
    {i1 : ∀ a, o1 a + S256x1.size a ≤ S2048x1.size a} {i2 : ∀ a, o2 a + S256x1.size a ≤ S2048x1.size a} {hl} {hx} {hmm}
    {w : (Rect.unit (s := S2048x1) o2 S256x1.size i2).shape.Idx → Elt F .i32} (hw : w = rankB (k0_pay4 (I.e c)) (pre I c) b)
    {α : Type} {Q : α → sProp 𝕄} {K : Prog (TpuEff nD τ sig (Elt F) Λ₀ .tc) α} :
    rankSt I c n ⊢ iprop((rankSt I c m -∗ WP c K Q) -∗ WP c
      (Prog.lift (.load rankM (Rect.unit (s := S2048x1) o1 S256x1.size i1).toLoadRect hl) >>= fun _ =>
        Prog.lift (.store rankM (Rect.unit (s := S2048x1) o2 S256x1.size i2) w Finset.univ hx hmm) >>= fun _ => K) Q) := by
  subst hn hm h1 h2 hw
  unfold rankSt
  iintro ⟨%f, %hf, H⟩ Hk
  iapply (ld c (f := f)) $$ [H]
  · iexact H
  iintro H
  iapply (st c (f := f)) $$ [H]
  · iexact H
  iintro H
  iapply Hk
  iexists _
  isplitr
  rotate_left
  · iexact H
  · ipureintro
    intro i hi
    by_cases hb : blockOf i = b
    · rw [write_rank_mem b f _ i hb]; show _ = rankB _ _ (blockOf i) _; rw [hb]
    · rw [write_rank_off b f _ i hb]
      exact hf i (by have : (blockOf i).val ≠ b.val := fun h => hb (Fin.ext h); omega)

theorem step_ys (l : Fin 8) {n m : ℕ} (hn : n = l.val) (hm : m = l.val + 1) {o1 o2 : Fin 2 → ℕ} (h1 : o1 = ![32 * l.val, 0]) (h2 : o2 = ![32 * l.val, 0])
    {i1 : ∀ a, o1 a + S32x1024.size a ≤ S256x1024.size a} {i2 : ∀ a, o2 a + S32x1024.size a ≤ S256x1024.size a} {hl} {hx} {hmm}
    {w : (Rect.unit (s := S256x1024) o2 S32x1024.size i2).shape.Idx → Elt F .bf16} (hw : w = ysB I c l)
    {α : Type} {Q : α → sProp 𝕄} {K : Prog (TpuEff nD τ sig (Elt F) Λ₀ .tc) α} :
    ysSt I c n ⊢ iprop((ysSt I c m -∗ WP c K Q) -∗ WP c
      (Prog.lift (.load ysM (Rect.unit (s := S256x1024) o1 S32x1024.size i1).toLoadRect hl) >>= fun _ =>
        Prog.lift (.store ysM (Rect.unit (s := S256x1024) o2 S32x1024.size i2) w Finset.univ hx hmm) >>= fun _ => K) Q) := by
  subst hn hm h1 h2 hw
  unfold ysSt
  iintro ⟨%f, %hf, H⟩ Hk
  iapply (ld c (f := f)) $$ [H]
  · iexact H
  iintro H
  iapply (st c (f := f)) $$ [H]
  · iexact H
  iintro H
  iapply Hk
  iexists _
  isplitr
  rotate_left
  · iexact H
  · ipureintro
    intro i hi
    by_cases hb : expertOf i = l
    · rw [write_ys_mem l f _ i hb]; show _ = ysB I c (expertOf i) _; rw [hb]
    · rw [write_ys_off l f _ i hb]
      exact hf i (by have : (expertOf i).val ≠ l.val := fun h => hb (Fin.ext h); omega)

end Fill
end Cert.KernelIdealProof
end
-- ==== Proof.KernelIdealBody.lean ====
/-
The kernel's body, part by part, at a symbolic device: each part's result and what it leaves in the buffers it uses, by
the step lemmas in the order of the part's own text.
-/
module

public import proofs.«01_k».proof.Proof.KernelIdealFill

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel on the launch's buffers and semaphores. -/
abbrev onOps {β : Type 1} (p : ∀
    (a0 : Memref sig .tc .vmem S2048x1 .i32) (_ : a0.IsWhole)
    (a1 : Memref sig .tc .vmem S2048x1024 .bf16) (_ : a1.IsWhole)
    (a2 : Memref sig .tc .vmem S8x1024x1024 .bf16) (_ : a2.IsWhole)
    (a3 : Memref sig .tc .vmem S256x1024 .f32) (_ : a3.IsWhole)
    (a4 : Memref sig .tc .vmem S2048x1024 .bf16) (_ : a4.IsWhole)
    (a5 : Memref sig .tc .vmem S256x1024 .f32) (_ : a5.IsWhole)
    (a6 : Memref sig .tc .vmem S256x1024 .bf16) (_ : a6.IsWhole)
    (a7 : Memref sig .tc .vmem S2048x1 .i32) (_ : a7.IsWhole)
    (a8 : Memref sig .tc .vmem S2048x8 .bf16) (_ : a8.IsWhole)
    (a9 : Memref sig .tc .vmem S2048x1 .i32) (_ : a9.IsWhole)
    (a10 : Memref sig .tc .vmem S2048x1 .i32) (_ : a10.IsWhole)
    (a11 : Memref sig .tc .vmem S8x64x1024 .bf16) (_ : a11.IsWhole)
    (a12 : Memref sig .tc .vmem S8x64x1024 .bf16) (_ : a12.IsWhole)
    (a13 : DmaSems sig S8) (a14 : DmaSems sig S8), β) : β :=
  p eM (Memref.isWhole_whole _) xM (Memref.isWhole_whole _) wM (Memref.isWhole_whole _) oM (Memref.isWhole_whole _) xbfM (Memref.isWhole_whole _) xgM (Memref.isWhole_whole _) ysM (Memref.isWhole_whole _) rankM (Memref.isWhole_whole _) s8M (Memref.isWhole_whole _) keptM (Memref.isWhole_whole _) srcM (Memref.isWhole_whole _) sendM (Memref.isWhole_whole _) recvM (Memref.isWhole_whole _) cc0_scratch9 cc0_scratch10
section Parts
variable (I : Ins F) (Kn : Dev nD × SemIx → ℕ) (c : Dev nD)

/-! ## The signals and the barrier -/

theorem part1_spec {Q} :
    iprop(records (Gof (pair I)) Kn ∗ levAts L lv ∗ sigSt (F := F) c 0 ∗ cred (tallyAt (barCell c) () 7) ∗ atPos ER (barCell c) 0 ∅ 0)
      ⊢ iprop((((∃ W, owes (c : Thread nD τ) (sumFrom (recvDebt c) 0) W) ∗ semVal (barCell c) 0
            ∗ bigSep (Finset.univ.erase c) fun d => iprop(∃ f, recvPts d c f)) -∗ Q ⟨c, word c⟩)
          -∗ WP c (onOps (k0_part1 (F := F))) Q) := by
  rw [k0_part1_eq_skeleton]; unfold onOps k0_part1_skel
  iintro ⟨#HR, #Hlev, Hs, Hc, Hat⟩ Hk
  iapply (did c)
  iapply (step_signal (pair I) Kn c 0 rfl (m := 1) rfl (by revert c; decide) (fun h => Fin.ext k0_dev1_eq)) $$ [Hs]
  · isplitr; · iexact HR
    iexact Hs
  iintro Hs
  iapply (step_signal (pair I) Kn c 1 rfl (m := 2) rfl (by revert c; decide) (fun h => Fin.ext k0_dev2_eq)) $$ [Hs]
  · isplitr; · iexact HR
    iexact Hs
  iintro Hs
  iapply (step_signal (pair I) Kn c 2 rfl (m := 3) rfl (by revert c; decide) (fun h => Fin.ext k0_dev3_eq)) $$ [Hs]
  · isplitr; · iexact HR
    iexact Hs
  iintro Hs
  iapply (step_signal (pair I) Kn c 3 rfl (m := 4) rfl (by revert c; decide) (fun h => Fin.ext k0_dev4_eq)) $$ [Hs]
  · isplitr; · iexact HR
    iexact Hs
  iintro Hs
  iapply (step_signal (pair I) Kn c 4 rfl (m := 5) rfl (by revert c; decide) (fun h => Fin.ext k0_dev5_eq)) $$ [Hs]
  · isplitr; · iexact HR
    iexact Hs
  iintro Hs
  iapply (step_signal (pair I) Kn c 5 rfl (m := 6) rfl (by revert c; decide) (fun h => Fin.ext k0_dev6_eq)) $$ [Hs]
  · isplitr; · iexact HR
    iexact Hs
  iintro Hs
  iapply (step_signal (pair I) Kn c 6 rfl (m := 7) rfl (by revert c; decide) (fun h => Fin.ext k0_dev7_eq)) $$ [Hs]
  · isplitr; · iexact HR
    iexact Hs
  iintro Hs
  iapply (step_signal (pair I) Kn c 7 rfl (m := 8) rfl (by revert c; decide) (fun h => Fin.ext k0_dev8_eq)) $$ [Hs]
  · isplitr; · iexact HR
    iexact Hs
  iintro Hs
  iapply (step_barrier (pair I) Kn c) $$ [Hs Hc Hat]
  · isplitr; · iexact HR
    isplitr; · iexact Hlev
    isplitl [Hs]; · iexact Hs
    isplitl [Hc] <;> iassumption
  iintro H
  iapply (ret_as c (Q := Q) ⟨c, word c⟩ rfl)
  iapply Hk
  iexact H

/-! ## The tables -/

theorem part2_spec {Q} :
    iprop(pts c cc0_stg0_0 (I.e c) ∗ pts c cc0_stg1_0 (I.x c) ∗ ∃ f, pts c cc0_scratch0 f)
      ⊢ iprop(((pts c cc0_stg0_0 (I.e c) ∗ pts c cc0_stg1_0 (I.x c) ∗ pts c cc0_scratch0 (k0_pay1 (I.x c)))
          -∗ Q ⟨k0_pay2 (F := F), k0_pay3 (I.e c), k0_pay4 (I.e c), k0_pay5 (F := F)⟩)
        -∗ WP c (onOps (k0_part2 (F := F))) Q) := by
  rw [k0_part2_eq_skeleton]; unfold onOps k0_part2_skel
  iintro ⟨He, Hx, ⟨%f, Hb⟩⟩ Hk
  iapply (ld_eq c (Memref.readAt_unit_zero (Elt F) cc0_stg1_0 zero2 _ _)) $$ [Hx]
  · iexact Hx
  iintro Hx
  iapply (ld c) $$ [Hb]
  · iexact Hb
  iintro Hb
  iapply (st_eq c (Memref.write_access_unit_zero_univ (Elt F) cc0_scratch0 zero2 _ _ _)) $$ [Hb]
  · iexact Hb
  iintro Hb
  iapply (ld_eq c (Memref.readAt_unit_zero (Elt F) cc0_stg0_0 zero2 _ _)) $$ [He]
  · iexact He
  iintro He
  iapply (ret c)
  iapply Hk
  isplitl [He]; · iexact He
  isplitl [Hx] <;> iassumption

/-! ## The ranks -/

theorem part3_spec {Q} :
    rankSt I c 0 ⊢ iprop((rankSt I c 2 -∗ Q ⟨pre I c, k0_pay9 (k0_pay2 (F := F)) (k0_pay4 (I.e c)) (k0_pay5 (F := F))⟩)
      -∗ WP c (onOps (k0_part3 (F := F)) k0_pay2 (k0_pay4 (I.e c)) k0_pay5) Q) := by
  rw [k0_part3_eq_skeleton]; unfold onOps k0_part3_skel
  iintro H Hk
  iapply (step_rank I c 0 rfl (m := 1) rfl rfl rfl rfl) $$ [H]
  · iexact H
  iintro H
  iapply (step_rank I c 1 rfl (m := 2) rfl rfl rfl rfl) $$ [H]
  · iexact H
  iintro H
  iapply (ret_as c (Q := Q) ⟨pre I c, _⟩ rfl)
  iapply Hk
  iexact H

theorem part4_spec {Q} :
    iprop(rankSt I c 2)
      ⊢ iprop(((rankSt I c 6) -∗ Q ⟨⟩)
        -∗ WP c (onOps (k0_part4 (F := F)) (k0_pay2 (F := F)) (k0_pay4 (I.e c)) (pre I c) (k0_pay9 (k0_pay2 (F := F)) (k0_pay4 (I.e c)) (k0_pay5 (F := F)))) Q) := by
  rw [k0_part4_eq_skeleton]; unfold onOps k0_part4_skel
  iintro H Hk
  iapply (step_rank I c 2 rfl (m := 3) rfl rfl rfl rfl) $$ [H]
  · iexact H
  iintro H
  iapply (step_rank I c 3 rfl (m := 4) rfl rfl rfl rfl) $$ [H]
  · iexact H
  iintro H
  iapply (step_rank I c 4 rfl (m := 5) rfl rfl rfl rfl) $$ [H]
  · iexact H
  iintro H
  iapply (step_rank I c 5 rfl (m := 6) rfl rfl rfl rfl) $$ [H]
  · iexact H
  iintro H
  iapply (ret_as c (Q := Q) ⟨⟩ rfl)
  iapply Hk
  iexact H

theorem part5_spec {Q} :
    iprop(rankSt I c 6)
      ⊢ iprop(((pts c cc0_scratch3 (rank I c)) -∗ Q ⟨rank I c, keptBit I c, 8#32, k0_pay17 (k0_pay3 (I.e c)), k0_pay18 (k0_pay3 (I.e c)), pos8, neg8⟩)
        -∗ WP c (onOps (k0_part5 (F := F)) (k0_pay2 (F := F)) (k0_pay3 (I.e c)) (k0_pay4 (I.e c)) (pre I c)) Q) := by
  rw [k0_part5_eq_skeleton]; unfold onOps k0_part5_skel
  iintro H Hk
  iapply (step_rank I c 6 rfl (m := 7) rfl rfl rfl rfl) $$ [H]
  · iexact H
  iintro H
  iapply (step_rank I c 7 rfl (m := 8) rfl rfl rfl rfl) $$ [H]
  · iexact H
  iintro H
  ihave H := (rankSt_end I c) $$ H
  iapply (ld_eq c (Memref.readAt_unit_zero (Elt F) cc0_scratch3 zero2 _ _)) $$ [H]
  · iexact H
  iintro H
  iapply (ret_as c (Q := Q) ⟨rank I c, keptBit I c, 8#32, k0_pay17 (k0_pay3 (I.e c)), k0_pay18 (k0_pay3 (I.e c)), pos8, neg8⟩ rfl)
  iapply Hk
  iexact H

theorem part6_spec {Q} :
    iprop((∃ f, pts c cc0_scratch4 f) ∗ (∃ f, pts c cc0_scratch5 f) ∗ ∃ f, pts c cc0_scratch6 f)
      ⊢ iprop(((pts c cc0_scratch4 (s8 I c) ∗ pts c cc0_scratch5 (kept I c) ∗ pts c cc0_scratch6 (src I c)) -∗ Q ⟨slot I c, iota256⟩)
        -∗ WP c (onOps (k0_part6 (F := F)) (word c) (k0_pay3 (I.e c)) (rank I c) (keptBit I c) 8#32 (k0_pay17 (k0_pay3 (I.e c))) (k0_pay18 (k0_pay3 (I.e c))) pos8 neg8) Q) := by
  rw [k0_part6_eq_skeleton]; unfold onOps k0_part6_skel
  iintro ⟨⟨%f4, H4⟩, ⟨%f5, H5⟩, ⟨%f6, H6⟩⟩ Hk
  iapply (ld c) $$ [H4]
  · iexact H4
  iintro H4
  iapply (st_eq c (Memref.write_access_unit_zero_univ (Elt F) cc0_scratch4 zero2 _ _ _)) $$ [H4]
  · iexact H4
  iintro H4
  iapply (ld c) $$ [H5]
  · iexact H5
  iintro H5
  iapply (st_eq c (Memref.write_access_unit_zero_univ (Elt F) cc0_scratch5 zero2 _ _ _)) $$ [H5]
  · iexact H5
  iintro H5
  iapply (ld c) $$ [H6]
  · iexact H6
  iintro H6
  iapply (st_eq c (Memref.write_access_unit_zero_univ (Elt F) cc0_scratch6 zero2 _ _ _)) $$ [H6]
  · iexact H6
  iintro H6
  iapply (ret_as c (Q := Q) ⟨slot I c, iota256⟩ rfl)
  iapply Hk
  isplitl [H4]; · iexact H4
  isplitl [H5]; · iexact H5
  iexact H6

/-! ## The products with the experts' weights -/

theorem part7_spec {Q} :
    iprop(pts c cc0_scratch0 (k0_pay1 (I.x c)) ∗ (∃ f, pts c cc0_scratch1 f) ∗ pts c cc0_stg2_0 (I.w c) ∗ ysSt I c 0)
      ⊢ iprop(((pts c cc0_scratch0 (k0_pay1 (I.x c)) ∗ pts c cc0_scratch1 (xg I c) ∗ pts c cc0_stg2_0 (I.w c) ∗ ysSt I c 2) -∗ Q (k0_pay27 (rows32 2 (xg I c)) (expertAt 2 (I.w c))))
        -∗ WP c (onOps (k0_part7 (F := F)) (slot I c) iota256) Q) := by
  rw [k0_part7_eq_skeleton]; unfold onOps k0_part7_skel
  iintro ⟨Hb, ⟨%f, Hg⟩, Hw, H⟩ Hk
  iapply (ld_eq c (Memref.readAt_unit_zero (Elt F) cc0_scratch0 zero2 _ _)) $$ [Hb]
  · iexact Hb
  iintro Hb
  iapply (ld c) $$ [Hg]
  · iexact Hg
  iintro Hg
  iapply (st_eq c (Memref.write_access_unit_zero_univ (Elt F) cc0_scratch1 zero2 _ _ _)) $$ [Hg]
  · iexact Hg
  iintro Hg
  iapply (ld_eq c (by exact read_rows_scratch1 (xg I c) 0)) $$ [Hg]
  · iexact Hg
  iintro Hg
  iapply (ld_eq c (by exact read_expert (I.w c) 0)) $$ [Hw]
  · iexact Hw
  iintro Hw
  iapply (step_ys I c 0 rfl (m := 1) rfl rfl rfl rfl) $$ [H]
  · iexact H
  iintro H
  iapply (ld_eq c (by exact read_rows_scratch1 (xg I c) 1)) $$ [Hg]
  · iexact Hg
  iintro Hg
  iapply (ld_eq c (by exact read_expert (I.w c) 1)) $$ [Hw]
  · iexact Hw
  iintro Hw
  iapply (step_ys I c 1 rfl (m := 2) rfl rfl rfl rfl) $$ [H]
  · iexact H
  iintro H
  iapply (ld_eq c (by exact read_rows_scratch1 (xg I c) 2)) $$ [Hg]
  · iexact Hg
  iintro Hg
  iapply (ld_eq c (by exact read_expert (I.w c) 2)) $$ [Hw]
  · iexact Hw
  iintro Hw
  iapply (ret_as c (Q := Q) (k0_pay27 (rows32 2 (xg I c)) (expertAt 2 (I.w c))) rfl)
  iapply Hk
  isplitl [Hb]; · iexact Hb
  isplitl [Hg]; · iexact Hg
  isplitl [Hw]; · iexact Hw
  iexact H

theorem part8_spec {Q} :
    iprop(pts c cc0_scratch1 (xg I c) ∗ pts c cc0_stg2_0 (I.w c) ∗ ysSt I c 2)
      ⊢ iprop(((pts c cc0_scratch1 (xg I c) ∗ pts c cc0_stg2_0 (I.w c) ∗ ysSt I c 6) -∗ Q ⟨⟩)
        -∗ WP c (onOps (k0_part8 (F := F)) (k0_pay27 (rows32 2 (xg I c)) (expertAt 2 (I.w c)))) Q) := by
  rw [k0_part8_eq_skeleton]; unfold onOps k0_part8_skel
  iintro ⟨Hg, Hw, H⟩ Hk
  iapply (step_ys I c 2 rfl (m := 3) rfl rfl rfl rfl) $$ [H]
  · iexact H
  iintro H
  iapply (ld_eq c (by exact read_rows_scratch1 (xg I c) 3)) $$ [Hg]
  · iexact Hg
  iintro Hg
  iapply (ld_eq c (by exact read_expert (I.w c) 3)) $$ [Hw]
  · iexact Hw
  iintro Hw
  iapply (step_ys I c 3 rfl (m := 4) rfl rfl rfl rfl) $$ [H]
  · iexact H
  iintro H
  iapply (ld_eq c (by exact read_rows_scratch1 (xg I c) 4)) $$ [Hg]
  · iexact Hg
  iintro Hg
  iapply (ld_eq c (by exact read_expert (I.w c) 4)) $$ [Hw]
  · iexact Hw
  iintro Hw
  iapply (step_ys I c 4 rfl (m := 5) rfl rfl rfl rfl) $$ [H]
  · iexact H
  iintro H
  iapply (ld_eq c (by exact read_rows_scratch1 (xg I c) 5)) $$ [Hg]
  · iexact Hg
  iintro Hg
  iapply (ld_eq c (by exact read_expert (I.w c) 5)) $$ [Hw]
  · iexact Hw
  iintro Hw
  iapply (step_ys I c 5 rfl (m := 6) rfl rfl rfl rfl) $$ [H]
  · iexact H
  iintro H
  iapply (ret_as c (Q := Q) ⟨⟩ rfl)
  iapply Hk
  isplitl [Hg]; · iexact Hg
  isplitl [Hw]; · iexact Hw
  iexact H

/-- The tables the blocks are made from. -/
abbrev tables : sProp 𝕄 :=
  iprop(pts c cc0_scratch2 (ys I c) ∗ pts c cc0_scratch4 (s8 I c) ∗ pts c cc0_scratch6 (src I c) ∗ pts c cc0_scratch5 (kept I c))

theorem part9_spec {Q} :
    iprop(pts c cc0_scratch1 (xg I c) ∗ pts c cc0_stg2_0 (I.w c) ∗ ysSt I c 6 ∗ pts c cc0_scratch4 (s8 I c) ∗ pts c cc0_scratch6 (src I c) ∗ pts c cc0_scratch5 (kept I c))
      ⊢ iprop(((pts c cc0_scratch1 (xg I c) ∗ pts c cc0_stg2_0 (I.w c) ∗ tables I c) -∗ Q ⟨iota64, k0_pay34 (slot I c) (ys I c), k0_pay35 (k0_pay2 (F := F)) (rows8 0 (s8 I c)), rows1 0 (src I c)⟩)
        -∗ WP c (onOps (k0_part9 (F := F)) (k0_pay2 (F := F)) (slot I c)) Q) := by
  rw [k0_part9_eq_skeleton]; unfold onOps k0_part9_skel
  iintro ⟨Hg, Hw, H, H8, Hs, Hp⟩ Hk
  iapply (ld_eq c (by exact read_rows_scratch1 (xg I c) 6)) $$ [Hg]
  · iexact Hg
  iintro Hg
  iapply (ld_eq c (by exact read_expert (I.w c) 6)) $$ [Hw]
  · iexact Hw
  iintro Hw
  iapply (step_ys I c 6 rfl (m := 7) rfl rfl rfl rfl) $$ [H]
  · iexact H
  iintro H
  iapply (ld_eq c (by exact read_rows_scratch1 (xg I c) 7)) $$ [Hg]
  · iexact Hg
  iintro Hg
  iapply (ld_eq c (by exact read_expert (I.w c) 7)) $$ [Hw]
  · iexact Hw
  iintro Hw
  iapply (step_ys I c 7 rfl (m := 8) rfl rfl rfl rfl) $$ [H]
  · iexact H
  iintro H
  ihave Hy := (ysSt_end I c) $$ H
  iapply (ld_eq c (Memref.readAt_unit_zero (Elt F) cc0_scratch2 zero2 _ _)) $$ [Hy]
  · iexact Hy
  iintro Hy
  iapply (ld_eq c (by exact read_rows_scratch4 (s8 I c) 0)) $$ [H8]
  · iexact H8
  iintro H8
  iapply (ld_eq c (by exact read_rows_scratch6 (src I c) 0)) $$ [Hs]
  · iexact Hs
  iintro Hs
  iapply (ret_as c (Q := Q) ⟨iota64, k0_pay34 (slot I c) (ys I c), k0_pay35 (k0_pay2 (F := F)) (rows8 0 (s8 I c)), rows1 0 (src I c)⟩ rfl)
  iapply Hk
  isplitl [Hg]; · iexact Hg
  isplitl [Hw]; · iexact Hw
  isplitl [Hy]; · iexact Hy
  isplitl [H8]; · iexact H8
  isplitl [Hs]; · iexact Hs
  iexact Hp

/-! ## The blocks -/

theorem part10_spec {Q} :
    iprop(records (Gof (pair I)) Kn ∗ sendSt (pair I) c 0 ∗ tables I c)
      ⊢ iprop(((sendSt (pair I) c 1 ∗ tables I c) -∗ Q ⟨k0_pay39 (slot I c) (ys I c), k0_pay40 (k0_pay2 (F := F)) (rows8 1 (s8 I c))⟩)
        -∗ WP c (onOps (k0_part10 (F := F)) c (word c) (k0_pay2 (F := F)) (slot I c) iota64 (k0_pay34 (slot I c) (ys I c)) (k0_pay35 (k0_pay2 (F := F)) (rows8 0 (s8 I c))) (rows1 0 (src I c))) Q) := by
  rw [k0_part10_eq_skeleton]; unfold onOps k0_part10_skel
  iintro ⟨#HR, HS, Hy, H8, Hs, Hp⟩ Hk
  iapply (ld_eq c (by exact read_rows_scratch5 (kept I c) 0)) $$ [Hp]
  · iexact Hp
  iintro Hp
  iapply (step_block (pair I) Kn c 0 rfl (m := 1) rfl (by revert c; decide) (by revert c; decide) rfl rfl rfl rfl (k0_off2_eq c) rfl (k0_off1_eq c)
    rfl rfl (fun h => Fin.ext k0_dev9_eq)) $$ [HS]
  · isplitr; · iexact HR
    iexact HS
  iintro HS
  iapply (ld_eq c (Memref.readAt_unit_zero (Elt F) cc0_scratch2 zero2 _ _)) $$ [Hy]
  · iexact Hy
  iintro Hy
  iapply (ld_eq c (by exact read_rows_scratch4 (s8 I c) 1)) $$ [H8]
  · iexact H8
  iintro H8
  iapply (ret_as c (Q := Q) ⟨k0_pay39 (slot I c) (ys I c), k0_pay40 (k0_pay2 (F := F)) (rows8 1 (s8 I c))⟩ rfl)
  iapply Hk
  isplitl [HS]; · iexact HS
  isplitl [Hy]; · iexact Hy
  isplitl [H8]; · iexact H8
  isplitl [Hs]; · iexact Hs
  iexact Hp

theorem part11_spec {Q} :
    iprop(records (Gof (pair I)) Kn ∗ sendSt (pair I) c 1 ∗ tables I c)
      ⊢ iprop(((sendSt (pair I) c 2 ∗ tables I c) -∗ Q ⟨k0_pay44 (slot I c) (ys I c), k0_pay45 (k0_pay2 (F := F)) (rows8 2 (s8 I c))⟩)
        -∗ WP c (onOps (k0_part11 (F := F)) c (word c) (k0_pay2 (F := F)) (slot I c) iota64 (k0_pay39 (slot I c) (ys I c)) (k0_pay40 (k0_pay2 (F := F)) (rows8 1 (s8 I c)))) Q) := by
  rw [k0_part11_eq_skeleton]; unfold onOps k0_part11_skel
  iintro ⟨#HR, HS, Hy, H8, Hs, Hp⟩ Hk
  iapply (ld_eq c (by exact read_rows_scratch6 (src I c) 1)) $$ [Hs]
  · iexact Hs
  iintro Hs
  iapply (ld_eq c (by exact read_rows_scratch5 (kept I c) 1)) $$ [Hp]
  · iexact Hp
  iintro Hp
  iapply (step_block (pair I) Kn c 1 rfl (m := 2) rfl (by revert c; decide) (by revert c; decide) rfl rfl rfl rfl (k0_off4_eq c) rfl (k0_off3_eq c)
    rfl rfl (fun h => Fin.ext k0_dev10_eq)) $$ [HS]
  · isplitr; · iexact HR
    iexact HS
  iintro HS
  iapply (ld_eq c (Memref.readAt_unit_zero (Elt F) cc0_scratch2 zero2 _ _)) $$ [Hy]
  · iexact Hy
  iintro Hy
  iapply (ld_eq c (by exact read_rows_scratch4 (s8 I c) 2)) $$ [H8]
  · iexact H8
  iintro H8
  iapply (ret_as c (Q := Q) ⟨k0_pay44 (slot I c) (ys I c), k0_pay45 (k0_pay2 (F := F)) (rows8 2 (s8 I c))⟩ rfl)
  iapply Hk
  isplitl [HS]; · iexact HS
  isplitl [Hy]; · iexact Hy
  isplitl [H8]; · iexact H8
  isplitl [Hs]; · iexact Hs
  iexact Hp

theorem part12_spec {Q} :
    iprop(records (Gof (pair I)) Kn ∗ sendSt (pair I) c 2 ∗ tables I c)
      ⊢ iprop(((sendSt (pair I) c 3 ∗ tables I c) -∗ Q ⟨k0_pay49 (slot I c) (ys I c), rows8 3 (s8 I c), k0_pay50 (k0_pay2 (F := F)) (rows8 3 (s8 I c))⟩)
        -∗ WP c (onOps (k0_part12 (F := F)) c (word c) (k0_pay2 (F := F)) (slot I c) iota64 (k0_pay44 (slot I c) (ys I c)) (k0_pay45 (k0_pay2 (F := F)) (rows8 2 (s8 I c)))) Q) := by
  rw [k0_part12_eq_skeleton]; unfold onOps k0_part12_skel
  iintro ⟨#HR, HS, Hy, H8, Hs, Hp⟩ Hk
  iapply (ld_eq c (by exact read_rows_scratch6 (src I c) 2)) $$ [Hs]
  · iexact Hs
  iintro Hs
  iapply (ld_eq c (by exact read_rows_scratch5 (kept I c) 2)) $$ [Hp]
  · iexact Hp
  iintro Hp
  iapply (step_block (pair I) Kn c 2 rfl (m := 3) rfl (by revert c; decide) (by revert c; decide) rfl rfl rfl rfl (k0_off6_eq c) rfl (k0_off5_eq c)
    rfl rfl (fun h => Fin.ext k0_dev11_eq)) $$ [HS]
  · isplitr; · iexact HR
    iexact HS
  iintro HS
  iapply (ld_eq c (Memref.readAt_unit_zero (Elt F) cc0_scratch2 zero2 _ _)) $$ [Hy]
  · iexact Hy
  iintro Hy
  iapply (ld_eq c (by exact read_rows_scratch4 (s8 I c) 3)) $$ [H8]
  · iexact H8
  iintro H8
  iapply (ret_as c (Q := Q) ⟨k0_pay49 (slot I c) (ys I c), rows8 3 (s8 I c), k0_pay50 (k0_pay2 (F := F)) (rows8 3 (s8 I c))⟩ rfl)
  iapply Hk
  isplitl [HS]; · iexact HS
  isplitl [Hy]; · iexact Hy
  isplitl [H8]; · iexact H8
  isplitl [Hs]; · iexact Hs
  iexact Hp

theorem part13_spec {Q} :
    iprop(records (Gof (pair I)) Kn ∗ sendSt (pair I) c 3 ∗ tables I c)
      ⊢ iprop(((sendSt (pair I) c 4 ∗ tables I c) -∗ Q (k0_pay54 (slot I c) (ys I c)))
        -∗ WP c (onOps (k0_part13 (F := F)) c (word c) (slot I c) iota64 (k0_pay49 (slot I c) (ys I c)) (rows8 3 (s8 I c)) (k0_pay50 (k0_pay2 (F := F)) (rows8 3 (s8 I c)))) Q) := by
  rw [k0_part13_eq_skeleton]; unfold onOps k0_part13_skel
  iintro ⟨#HR, HS, Hy, H8, Hs, Hp⟩ Hk
  iapply (ld_eq c (by exact read_rows_scratch6 (src I c) 3)) $$ [Hs]
  · iexact Hs
  iintro Hs
  iapply (ld_eq c (by exact read_rows_scratch5 (kept I c) 3)) $$ [Hp]
  · iexact Hp
  iintro Hp
  iapply (step_block (pair I) Kn c 3 rfl (m := 4) rfl (by revert c; decide) (by revert c; decide) rfl rfl rfl rfl (k0_off8_eq c) rfl (k0_off7_eq c)
    rfl rfl (fun h => Fin.ext k0_dev12_eq)) $$ [HS]
  · isplitr; · iexact HR
    iexact HS
  iintro HS
  iapply (ld_eq c (Memref.readAt_unit_zero (Elt F) cc0_scratch2 zero2 _ _)) $$ [Hy]
  · iexact Hy
  iintro Hy
  iapply (ret_as c (Q := Q) (k0_pay54 (slot I c) (ys I c)) rfl)
  iapply Hk
  isplitl [HS]; · iexact HS
  isplitl [Hy]; · iexact Hy
  isplitl [H8]; · iexact H8
  isplitl [Hs]; · iexact Hs
  iexact Hp

theorem part14_spec {Q} :
    iprop(records (Gof (pair I)) Kn ∗ sendSt (pair I) c 4 ∗ tables I c)
      ⊢ iprop(((sendSt (pair I) c 5 ∗ tables I c) -∗ Q (k0_pay58 (slot I c) (ys I c)))
        -∗ WP c (onOps (k0_part14 (F := F)) c (word c) (k0_pay2 (F := F)) (slot I c) iota64 (k0_pay54 (slot I c) (ys I c))) Q) := by
  rw [k0_part14_eq_skeleton]; unfold onOps k0_part14_skel
  iintro ⟨#HR, HS, Hy, H8, Hs, Hp⟩ Hk
  iapply (ld_eq c (by exact read_rows_scratch4 (s8 I c) 4)) $$ [H8]
  · iexact H8
  iintro H8
  iapply (ld_eq c (by exact read_rows_scratch6 (src I c) 4)) $$ [Hs]
  · iexact Hs
  iintro Hs
  iapply (ld_eq c (by exact read_rows_scratch5 (kept I c) 4)) $$ [Hp]
  · iexact Hp
  iintro Hp
  iapply (step_block (pair I) Kn c 4 rfl (m := 5) rfl (by revert c; decide) (by revert c; decide) rfl rfl rfl rfl (k0_off10_eq c) rfl (k0_off9_eq c)
    rfl rfl (fun h => Fin.ext k0_dev13_eq)) $$ [HS]
  · isplitr; · iexact HR
    iexact HS
  iintro HS
  iapply (ld_eq c (Memref.readAt_unit_zero (Elt F) cc0_scratch2 zero2 _ _)) $$ [Hy]
  · iexact Hy
  iintro Hy
  iapply (ret_as c (Q := Q) (k0_pay58 (slot I c) (ys I c)) rfl)
  iapply Hk
  isplitl [HS]; · iexact HS
  isplitl [Hy]; · iexact Hy
  isplitl [H8]; · iexact H8
  isplitl [Hs]; · iexact Hs
  iexact Hp

theorem part15_spec {Q} :
    iprop(records (Gof (pair I)) Kn ∗ sendSt (pair I) c 5 ∗ tables I c)
      ⊢ iprop(((sendSt (pair I) c 6 ∗ tables I c) -∗ Q (k0_pay62 (F := F) (slot I c)))
        -∗ WP c (onOps (k0_part15 (F := F)) c (word c) (k0_pay2 (F := F)) (slot I c) iota64 (k0_pay58 (slot I c) (ys I c))) Q) := by
  rw [k0_part15_eq_skeleton]; unfold onOps k0_part15_skel
  iintro ⟨#HR, HS, Hy, H8, Hs, Hp⟩ Hk
  iapply (ld_eq c (by exact read_rows_scratch4 (s8 I c) 5)) $$ [H8]
  · iexact H8
  iintro H8
  iapply (ld_eq c (by exact read_rows_scratch6 (src I c) 5)) $$ [Hs]
  · iexact Hs
  iintro Hs
  iapply (ld_eq c (by exact read_rows_scratch5 (kept I c) 5)) $$ [Hp]
  · iexact Hp
  iintro Hp
  iapply (step_block (pair I) Kn c 5 rfl (m := 6) rfl (by revert c; decide) (by revert c; decide) rfl rfl rfl rfl (k0_off12_eq c) rfl (k0_off11_eq c)
    rfl rfl (fun h => Fin.ext k0_dev14_eq)) $$ [HS]
  · isplitr; · iexact HR
    iexact HS
  iintro HS
  iapply (ret_as c (Q := Q) (k0_pay62 (F := F) (slot I c)) rfl)
  iapply Hk
  isplitl [HS]; · iexact HS
  isplitl [Hy]; · iexact Hy
  isplitl [H8]; · iexact H8
  isplitl [Hs]; · iexact Hs
  iexact Hp

theorem part16_spec {Q} :
    iprop(records (Gof (pair I)) Kn ∗ sendSt (pair I) c 6 ∗ tables I c)
      ⊢ iprop(((sendSt (pair I) c 7 ∗ tables I c) -∗ Q (k0_pay66 (F := F) (slot I c)))
        -∗ WP c (onOps (k0_part16 (F := F)) c (word c) (k0_pay2 (F := F)) (slot I c) iota64 (k0_pay62 (F := F) (slot I c))) Q) := by
  rw [k0_part16_eq_skeleton]; unfold onOps k0_part16_skel
  iintro ⟨#HR, HS, Hy, H8, Hs, Hp⟩ Hk
  iapply (ld_eq c (Memref.readAt_unit_zero (Elt F) cc0_scratch2 zero2 _ _)) $$ [Hy]
  · iexact Hy
  iintro Hy
  iapply (ld_eq c (by exact read_rows_scratch4 (s8 I c) 6)) $$ [H8]
  · iexact H8
  iintro H8
  iapply (ld_eq c (by exact read_rows_scratch6 (src I c) 6)) $$ [Hs]
  · iexact Hs
  iintro Hs
  iapply (ld_eq c (by exact read_rows_scratch5 (kept I c) 6)) $$ [Hp]
  · iexact Hp
  iintro Hp
  iapply (step_block (pair I) Kn c 6 rfl (m := 7) rfl (by revert c; decide) (by revert c; decide) rfl rfl rfl rfl (k0_off14_eq c) rfl (k0_off13_eq c)
    rfl rfl (fun h => Fin.ext k0_dev15_eq)) $$ [HS]
  · isplitr; · iexact HR
    iexact HS
  iintro HS
  iapply (ret_as c (Q := Q) (k0_pay66 (F := F) (slot I c)) rfl)
  iapply Hk
  isplitl [HS]; · iexact HS
  isplitl [Hy]; · iexact Hy
  isplitl [H8]; · iexact H8
  isplitl [Hs]; · iexact Hs
  iexact Hp

theorem part17_spec {Q} :
    iprop(records (Gof (pair I)) Kn ∗ sendSt (pair I) c 7 ∗ tables I c)
      ⊢ iprop(((sendSt (pair I) c 8 ∗ tables I c) -∗ Q (Scalar.extui (Scalar.cmpi .ne (word c) 0#32)))
        -∗ WP c (onOps (k0_part17 (F := F)) c (word c) (k0_pay2 (F := F)) iota64 (k0_pay66 (F := F) (slot I c))) Q) := by
  rw [k0_part17_eq_skeleton]; unfold onOps k0_part17_skel
  iintro ⟨#HR, HS, Hy, H8, Hs, Hp⟩ Hk
  iapply (ld_eq c (Memref.readAt_unit_zero (Elt F) cc0_scratch2 zero2 _ _)) $$ [Hy]
  · iexact Hy
  iintro Hy
  iapply (ld_eq c (by exact read_rows_scratch4 (s8 I c) 7)) $$ [H8]
  · iexact H8
  iintro H8
  iapply (ld_eq c (by exact read_rows_scratch6 (src I c) 7)) $$ [Hs]
  · iexact Hs
  iintro Hs
  iapply (ld_eq c (by exact read_rows_scratch5 (kept I c) 7)) $$ [Hp]
  · iexact Hp
  iintro Hp
  iapply (step_block (pair I) Kn c 7 rfl (m := 8) rfl (by revert c; decide) (by revert c; decide) rfl rfl rfl rfl (k0_off16_eq c) rfl (k0_off15_eq c)
    rfl rfl (fun h => Fin.ext k0_dev16_eq)) $$ [HS]
  · isplitr; · iexact HR
    iexact HS
  iintro HS
  iapply (ret_as c (Q := Q) (Scalar.extui (Scalar.cmpi .ne (word c) 0#32)) rfl)
  iapply Hk
  isplitl [HS]; · iexact HS
  isplitl [Hy]; · iexact Hy
  isplitl [H8]; · iexact H8
  isplitl [Hs]; · iexact Hs
  iexact Hp

/-! ## The arrivals, the sum and the departures -/

theorem part18_spec {Q} :
    iprop(records (Gof (pair I)) Kn ∗ arrSt (pair I) c 0 ∗ pts c cc0_scratch4 (s8 I c))
      ⊢ iprop(((arrSt (pair I) c 8 ∗ pts c cc0_scratch4 (s8 I c)) -∗ Q ⟨Scalar.muli (word c) 256#32, posB I c c⟩)
        -∗ WP c (onOps (k0_part18 (F := F)) c (word c) (k0_pay2 (F := F)) (Scalar.extui (Scalar.cmpi .ne (word c) 0#32))) Q) := by
  rw [k0_part18_eq_skeleton]; unfold onOps k0_part18_skel
  iintro ⟨#HR, HS, H8⟩ Hk
  iapply (step_arrive (pair I) Kn c 0 rfl (m := 1) rfl (by revert c; decide) rfl (by exact credit_recv 0)) $$ [HS]
  · isplitr; · iexact HR
    iexact HS
  iintro HS
  iapply (step_arrive (pair I) Kn c 1 rfl (m := 2) rfl (by revert c; decide) rfl (by exact credit_recv 1)) $$ [HS]
  · isplitr; · iexact HR
    iexact HS
  iintro HS
  iapply (step_arrive (pair I) Kn c 2 rfl (m := 3) rfl (by revert c; decide) rfl (by exact credit_recv 2)) $$ [HS]
  · isplitr; · iexact HR
    iexact HS
  iintro HS
  iapply (step_arrive (pair I) Kn c 3 rfl (m := 4) rfl (by revert c; decide) rfl (by exact credit_recv 3)) $$ [HS]
  · isplitr; · iexact HR
    iexact HS
  iintro HS
  iapply (step_arrive (pair I) Kn c 4 rfl (m := 5) rfl (by revert c; decide) rfl (by exact credit_recv 4)) $$ [HS]
  · isplitr; · iexact HR
    iexact HS
  iintro HS
  iapply (step_arrive (pair I) Kn c 5 rfl (m := 6) rfl (by revert c; decide) rfl (by exact credit_recv 5)) $$ [HS]
  · isplitr; · iexact HR
    iexact HS
  iintro HS
  iapply (step_arrive (pair I) Kn c 6 rfl (m := 7) rfl (by revert c; decide) rfl (by exact credit_recv 6)) $$ [HS]
  · isplitr; · iexact HR
    iexact HS
  iintro HS
  iapply (step_arrive (pair I) Kn c 7 rfl (m := 8) rfl (by revert c; decide) rfl (by exact credit_recv 7)) $$ [HS]
  · isplitr; · iexact HR
    iexact HS
  iintro HS
  iapply (ld_eq c (read_at_own4 c (k0_off17_eq c) _ _)) $$ [H8]
  · iexact H8
  iintro H8
  iapply (ret_as c (Q := Q) ⟨Scalar.muli (word c) 256#32, posB I c c⟩ rfl)
  iapply Hk
  isplitl [HS]; · iexact HS
  iexact H8

theorem part19_spec {Q} :
    iprop(pts c cc0_scratch6 (src I c) ∗ pts c cc0_scratch5 (kept I c) ∗ pts c cc0_scratch8 (Gof (pair I) c))
      ⊢ iprop(((pts c cc0_scratch6 (src I c) ∗ pts c cc0_scratch5 (kept I c) ∗ pts c cc0_scratch8 (Gof (pair I) c)) -∗ Q ⟨rows1 c (src I c), k0_pay71 (F := F) (posB I c c) (rows1 c (kept I c)), acc2 I c, k0_pay73 (F := F) iota64 (posB I c c) (rows1 c (src I c))⟩)
        -∗ WP c (onOps (k0_part19 (F := F)) c iota64 (Scalar.muli (word c) 256#32) (posB I c c)) Q) := by
  rw [k0_part19_eq_skeleton]; unfold onOps k0_part19_skel
  iintro ⟨Hs, Hp, Hr⟩ Hk
  iapply (ld_eq c (read_at_own6 c (k0_off18_eq c) _ _)) $$ [Hs]
  · iexact Hs
  iintro Hs
  iapply (ld_eq c (read_at_own5 c (k0_off18_eq c) _ _)) $$ [Hp]
  · iexact Hp
  iintro Hp
  iapply (ld_eq c (by exact read_slot (pair I) c 0)) $$ [Hr]
  · iexact Hr
  iintro Hr
  iapply (ld_eq c (by exact read_slot (pair I) c 1)) $$ [Hr]
  · iexact Hr
  iintro Hr
  iapply (ret_as c (Q := Q) ⟨rows1 c (src I c), k0_pay71 (F := F) (posB I c c) (rows1 c (kept I c)), acc2 I c, k0_pay73 (F := F) iota64 (posB I c c) (rows1 c (src I c))⟩ rfl)
  iapply Hk
  isplitl [Hs]; · iexact Hs
  isplitl [Hp]; · iexact Hp
  iexact Hr

theorem part20_spec {Q} :
    iprop(pts c cc0_scratch8 (Gof (pair I) c))
      ⊢ iprop(((pts c cc0_scratch8 (Gof (pair I) c)) -∗ Q ⟨acc5 I c, k0_pay75 (F := F) iota64 (posB I c c) (rows1 c (src I c))⟩)
        -∗ WP c (onOps (k0_part20 (F := F)) iota64 (posB I c c) (rows1 c (src I c)) (k0_pay71 (F := F) (posB I c c) (rows1 c (kept I c))) (acc2 I c) (k0_pay73 (F := F) iota64 (posB I c c) (rows1 c (src I c)))) Q) := by
  rw [k0_part20_eq_skeleton]; unfold onOps k0_part20_skel
  iintro Hr Hk
  iapply (ld_eq c (by exact read_slot (pair I) c 2)) $$ [Hr]
  · iexact Hr
  iintro Hr
  iapply (ld_eq c (by exact read_slot (pair I) c 3)) $$ [Hr]
  · iexact Hr
  iintro Hr
  iapply (ld_eq c (by exact read_slot (pair I) c 4)) $$ [Hr]
  · iexact Hr
  iintro Hr
  iapply (ret_as c (Q := Q) ⟨acc5 I c, k0_pay75 (F := F) iota64 (posB I c c) (rows1 c (src I c))⟩ rfl)
  iapply Hk
  iexact Hr

theorem part21_spec {Q} :
    iprop(pts c cc0_scratch8 (Gof (pair I) c) ∗ ∃ f, pts c cc0_stg3_0 f)
      ⊢ iprop(((pts c cc0_scratch8 (Gof (pair I) c) ∗ pts c cc0_stg3_0 (out I c)) -∗ Q (Scalar.extui (Scalar.cmpi .ne (word c) 0#32)))
        -∗ WP c (onOps (k0_part21 (F := F)) (word c) iota64 (posB I c c) (rows1 c (src I c)) (k0_pay71 (F := F) (posB I c c) (rows1 c (kept I c))) (acc5 I c) (k0_pay75 (F := F) iota64 (posB I c c) (rows1 c (src I c)))) Q) := by
  rw [k0_part21_eq_skeleton]; unfold onOps k0_part21_skel
  iintro ⟨Hr, ⟨%f, Ho⟩⟩ Hk
  iapply (ld_eq c (by exact read_slot (pair I) c 5)) $$ [Hr]
  · iexact Hr
  iintro Hr
  iapply (ld_eq c (by exact read_slot (pair I) c 6)) $$ [Hr]
  · iexact Hr
  iintro Hr
  iapply (ld_eq c (by exact read_slot (pair I) c 7)) $$ [Hr]
  · iexact Hr
  iintro Hr
  iapply (ld c) $$ [Ho]
  · iexact Ho
  iintro Ho
  iapply (st_eq c (Memref.write_access_unit_zero_univ (Elt F) cc0_stg3_0 zero2 _ _ _)) $$ [Ho]
  · iexact Ho
  iintro Ho
  iapply (ret_as c (Q := Q) (Scalar.extui (Scalar.cmpi .ne (word c) 0#32)) rfl)
  iapply Hk
  isplitl [Hr]; · iexact Hr
  iexact Ho

end Parts
end Cert.KernelIdealProof
end
-- ==== Proof.KernelIdealWhole.lean ====
/-
The kernel body whole, at a symbolic device: what passes from each of its phases to the next (signals, blocks, arrivals,
result, departures), and its parts put together.
-/
module

public import proofs.«01_k».proof.Proof.KernelIdealBody
public import Idealize.ShloMosaic.Lib.Ring

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## From phase to phase -/

omit [FloatOps F] in
/-- A family with a member of its own at `c`. -/
theorem bigSep_ite_at (c : Dev nD) (X : Dev nD → sProp 𝕄) (Y : Dev nD → sProp 𝕄) :
    (bigSep Finset.univ fun p => if p = c then X p else Y p) = iprop(X c ∗ bigSep (Finset.univ.erase c) Y) := by
  rw [bigSep_univ_at _ c, if_pos rfl]
  congr 1
  exact bigSep_congr fun p hp => if_neg (Finset.mem_erase.mp hp).1

theorem slot_disjoint (b b' : Dev nD) (h : b ≠ b') : Disjoint (slotSet b) (slotSet b') :=
  Finset.disjoint_left.mpr fun i hi hi' => h (Fin.ext (((mem_slotSet b i).mp hi).symm.trans ((mem_slotSet b' i).mp hi')))
theorem slot_cover : (Finset.univ.biUnion slotSet : Finset S8x64x1024.Idx) = Finset.univ :=
  Finset.eq_univ_iff_forall.mpr fun i => Finset.mem_biUnion.mpr ⟨i (0 : Fin 3), Finset.mem_univ _, (mem_slotSet _ i).mpr rfl⟩

omit [FloatOps F] in
theorem recv_split (c : Dev nD) (f : Buf (Elt F) ((c : Thread nD τ).loc cc0_scratch8)) :
    pts c cc0_scratch8 f = (bigSep Finset.univ fun s => recvPts c s f : sProp 𝕄) :=
  Ring.pointsTo_blocks (ℓ := (c : Thread nD τ).loc cc0_scratch8) slotSet slot_disjoint slot_cover f
omit [FloatOps F] in
theorem send_split (c : Dev nD) (f : Buf (Elt F) ((c : Thread nD τ).loc cc0_scratch7)) :
    pts c cc0_scratch7 f = (bigSep Finset.univ fun s => sendPts c s f : sProp 𝕄) :=
  Ring.pointsTo_blocks (ℓ := (c : Thread nD τ).loc cc0_scratch7) slotSet slot_disjoint slot_cover f
theorem send_join (c : Dev nD) : (bigSep Finset.univ fun b => iprop(∃ f, sendPts (F := F) c b f)) ⊢ iprop(∃ f, pts (F := F) c cc0_scratch7 f) :=
  Ring.pointsTo_blocks_join_exists (ℓ := (c : Thread nD τ).loc cc0_scratch7) slotSet slot_disjoint slot_cover (fun _ => FloatOps.ofBits .bf16 0)

omit [FloatOps F] in
theorem exists_recv (c s : Dev nD) (f : Buf (Elt F) ((c : Thread nD τ).loc cc0_scratch8)) : recvPts c s f ⊢ (iprop(∃ f, recvPts c s f) : sProp 𝕄) := by
  iintro H; iexists f; iexact H
omit [FloatOps F] in
theorem exists_send (c s : Dev nD) (f : Buf (Elt F) ((c : Thread nD τ).loc cc0_scratch7)) : sendPts c s f ⊢ (iprop(∃ f, sendPts c s f) : sProp 𝕄) := by
  iintro H; iexists f; iexact H

/-- The guard of a slot's wait: the slot is another device's. -/
theorem other_iff : ∀ c b : Dev nD,
    Scalar.cmpi .ne (Scalar.extui (Scalar.cmpi .ne (word c) (BitVec.ofNat 32 b.val))) 0#32 = 1#1 ↔ b ≠ c := by decide

section Phases
variable (I : Ins F) (Kn : Dev nD × SemIx → ℕ) (c : Dev nD)

/-- The tokens a device pays with: the other barriers', its send semaphores', its own receive semaphore's on every other device. -/
def tokBar : sProp 𝕄 := bigSep (Finset.univ.erase c) fun p => dutyTok ER (barCell p) 0 c
def tokSend : sProp 𝕄 := bigSep (Finset.univ.erase c) fun b => dutyTok ER (sendCell c b) 0 c
def tokRecv : sProp 𝕄 := bigSep (Finset.univ.erase c) fun b => dutyTok ER (recvCell b c) 0 c

theorem to_signals : iprop(tokBar (F := F) c ∗ ∃ f, pts c cc0_scratch8 f) ⊢ iprop((bigSep Finset.univ (sigRes (F := F) c)) ∗ ∃ f, recvPts c c f) := by
  unfold tokBar sigRes
  rw [bigSep_ite_at c (fun _ => iprop(emp)) (fun p => iprop(dutyTok ER (barCell p) 0 c ∗ ∃ f, recvPts c p f)), bigSep_sep']
  iintro ⟨Ht, %f, Hf⟩
  ihave Hf := (Entails.of_eq ((recv_split c f).trans (bigSep_univ_at (fun s => recvPts c s f) c))) $$ Hf
  icases Hf with ⟨Hc, Hf⟩
  isplitr [Hc]
  · isplitr; · iempintro
    isplitl [Ht]; · iexact Ht
    iapply (show (bigSep (Finset.univ.erase c) fun s => recvPts c s f) ⊢ (bigSep (Finset.univ.erase c) fun s => iprop(∃ f, recvPts (F := F) c s f))
      from bigSep_mono fun s _ => exists_recv c s f)
    iexact Hf
  iexists f; iexact Hc

theorem to_blocks :
    iprop((∃ f, recvPts c c f) ∗ (bigSep (Finset.univ.erase c) fun d => iprop(∃ f, recvPts d c f)) ∗ (∃ f, pts c cc0_scratch7 f) ∗ tokSend (F := F) c ∗ tokRecv c)
      ⊢ bigSep Finset.univ (sendRes (F := F) c) := by
  unfold tokSend tokRecv sendRes
  rw [bigSep_ite_at c (fun b => iprop((∃ f, recvPts c c f) ∗ ∃ f, sendPts c c f))
    (fun b => iprop((∃ f, sendPts c b f) ∗ (∃ f, recvPts b c f) ∗ dutyTok ER (sendCell c b) 0 c ∗ dutyTok ER (recvCell b c) 0 c)),
    bigSep_sep', bigSep_sep', bigSep_sep']
  iintro ⟨Hc, Hr, ⟨%f, Hf⟩, Hs, Ht⟩
  ihave Hf := (Entails.of_eq ((send_split c f).trans (bigSep_univ_at (fun s => sendPts c s f) c))) $$ Hf
  icases Hf with ⟨Hcs, Hf⟩
  isplitl [Hc Hcs]
  · isplitl [Hc]; · iexact Hc
    iexists f; iexact Hcs
  isplitl [Hf]
  · iapply (show (bigSep (Finset.univ.erase c) fun s => sendPts c s f) ⊢ (bigSep (Finset.univ.erase c) fun s => iprop(∃ f, sendPts (F := F) c s f))
      from bigSep_mono fun s _ => exists_send c s f)
    iexact Hf
  isplitl [Hr]; · iexact Hr
  isplitl [Hs] <;> iassumption

theorem to_waits (pair : Dev nD → Dev nD → S1x64x1024.Idx → Elt F .bf16) :
    iprop((bigSep Finset.univ (sendDone pair c)) ∗ (bigSep (Finset.univ.erase c) fun s => cred (tallyAt (recvCell c s) () N))
        ∗ (bigSep Finset.univ fun s => atPos ER (recvCell c s) 0 ∅ 0) ∗ bigSep Finset.univ fun b => atPos ER (sendCell c b) 0 ∅ 0)
      ⊢ iprop((bigSep Finset.univ (arrRes pair c)) ∗ bigSep Finset.univ (depRes (F := F) c)) := by
  unfold sendDone arrRes depRes
  rw [bigSep_ite_at c (fun _ => iprop(recvPts c c (Gof pair c) ∗ ∃ f, sendPts c c f)) (fun b => cred (tallyAt (sendCell c b) () N)),
    bigSep_sep', bigSep_sep',
    bigSep_ite_at c (fun _ => recvPts c c (Gof pair c)) (fun s => cred (tallyAt (recvCell c s) () N)),
    bigSep_ite_at c (fun b => iprop(∃ f, sendPts c b f)) (fun s => cred (tallyAt (sendCell c s) () N))]
  iintro ⟨⟨⟨Hr, Hs⟩, Hcs⟩, Hcr, Hat, Has⟩
  isplitl [Hr Hcr Hat]
  · isplitr [Hat]
    · isplitl [Hr] <;> iassumption
    · iexact Hat
  · isplitr [Has]
    · isplitl [Hs] <;> iassumption
    · iexact Has

theorem from_arrivals (pair : Dev nD → Dev nD → S1x64x1024.Idx → Elt F .bf16) :
    bigSep Finset.univ (arrDone pair c) ⊢ iprop(pts c cc0_scratch8 (Gof pair c) ∗ bigSep Finset.univ fun s => semVal (recvCell c s) 0) := by
  unfold arrDone
  rw [bigSep_sep', ← recv_split]

theorem from_departures :
    bigSep Finset.univ (depDone (F := F) c) ⊢ iprop((∃ f, pts c cc0_scratch7 f) ∗ bigSep Finset.univ fun s => semVal (sendCell c s) 0) := by
  unfold depDone
  rw [bigSep_sep']
  iintro ⟨H, Hv⟩
  isplitl [H]; · iapply (send_join c); iexact H
  iexact Hv

theorem sendSt_zero : iprop((∃ W, owes (c : Thread nD τ) (sumFrom (recvDebt c) 0) W) ∗ bigSep Finset.univ (sendRes (F := F) c)) ⊢ sendSt (pair I) c 0 := by
  unfold sendSt; rw [fam_zero]
theorem sendSt_end : sendSt (pair I) c 8 ⊢ iprop((∃ W, owes (c : Thread nD τ) 0 W) ∗ bigSep Finset.univ (sendDone (pair I) c)) := by
  unfold sendSt; rw [fam_end, sumFrom_end]
theorem arrSt_zero : iprop((∃ W, owes (c : Thread nD τ) 0 W) ∗ bigSep Finset.univ (arrRes (pair I) c)) ⊢ arrSt (pair I) c 0 := by
  unfold arrSt; rw [fam_zero]
theorem arrSt_end : arrSt (pair I) c 8 ⊢ iprop((∃ W, owes (c : Thread nD τ) 0 W) ∗ bigSep Finset.univ (arrDone (pair I) c)) := by
  unfold arrSt; rw [fam_end]
theorem depSt_zero : iprop((∃ W, owes (c : Thread nD τ) 0 W) ∗ bigSep Finset.univ (depRes (F := F) c)) ⊢ depSt (F := F) c 0 := by
  unfold depSt; rw [fam_zero]
theorem depSt_end : depSt (F := F) c 8 ⊢ iprop((∃ W, owes (c : Thread nD τ) 0 W) ∗ bigSep Finset.univ (depDone (F := F) c)) := by
  unfold depSt; rw [fam_end]
theorem sigSt_zero : iprop((∃ W, owes (c : Thread nD τ) (O₀ c) W) ∗ bigSep Finset.univ (sigRes (F := F) c)) ⊢ sigSt (F := F) c 0 := by
  unfold sigSt O₀; rw [fam_zero]

/-! ## The whole body -/

/-- The protocol's resources at the body's start, and at its end. -/
def ghost : sProp 𝕄 :=
  iprop(tokBar (F := F) c ∗ tokSend c ∗ tokRecv c ∗ cred (tallyAt (barCell c) () 7) ∗ (bigSep (Finset.univ.erase c) fun s => cred (tallyAt (recvCell c s) () N))
    ∗ atPos ER (barCell c) 0 ∅ 0 ∗ (bigSep Finset.univ fun s => atPos ER (recvCell c s) 0 ∅ 0) ∗ bigSep Finset.univ fun b => atPos ER (sendCell c b) 0 ∅ 0)
def semsZero : sProp 𝕄 :=
  iprop(semVal (barCell c) 0 ∗ (bigSep Finset.univ fun s => semVal (recvCell c s) 0) ∗ bigSep Finset.univ fun b => semVal (sendCell c b) 0)
/-- The kernel's own buffers, at some contents. -/
def scratch : sProp 𝕄 :=
  iprop((∃ f, pts (F := F) c cc0_scratch0 f) ∗ (∃ f, pts (F := F) c cc0_scratch1 f) ∗ (∃ f, pts (F := F) c cc0_scratch2 f)
    ∗ (∃ f, pts (F := F) c cc0_scratch3 f) ∗ (∃ f, pts (F := F) c cc0_scratch4 f) ∗ (∃ f, pts (F := F) c cc0_scratch5 f)
    ∗ (∃ f, pts (F := F) c cc0_scratch6 f) ∗ (∃ f, pts (F := F) c cc0_scratch7 f) ∗ ∃ f, pts (F := F) c cc0_scratch8 f)

theorem seq {α β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := by
  show _ ⊢ wp _ _ _ _ _
  rw [wp_bind]

set_option maxHeartbeats 1600000 in
theorem body_spec {Q} :
    iprop(records (Gof (pair I)) Kn ∗ levAts L lv ∗ (∃ W, owes (c : Thread nD τ) (O₀ c) W) ∗ ghost (F := F) c ∗ scratch c
        ∗ pts c cc0_stg0_0 (I.e c) ∗ pts c cc0_stg1_0 (I.x c) ∗ pts c cc0_stg2_0 (I.w c) ∗ ∃ f, pts c cc0_stg3_0 f)
      ⊢ iprop((((∃ W, owes (c : Thread nD τ) 0 W) ∗ semsZero (F := F) c ∗ scratch c
          ∗ pts c cc0_stg0_0 (I.e c) ∗ pts c cc0_stg1_0 (I.x c) ∗ pts c cc0_stg2_0 (I.w c) ∗ pts c cc0_stg3_0 (out I c)) -∗ Q ⟨⟩)
        -∗ WP c (onOps (cc0_body (F := F))) Q) := by
  rw [cc0_body_eq_skeleton]
  unfold onOps cc0_body_skel ghost scratch semsZero
  iintro ⟨#HR, #Hlev, HO, ⟨Htb, Hts, Htr, Hcb, Hcr, Hab, Har, Has⟩, ⟨B0, B1, ⟨%f2, B2⟩, ⟨%f3, B3⟩, B4, B5, B6, B7, B8⟩, He, Hx, Hw, Ho⟩ Hk
  iapply (seq c)
  rw [k0_part22_eq_skeleton]
  unfold k0_part22_skel
  -- the signals and the barrier
  iapply (seq c)
  ihave Hs := (to_signals c) $$ [Htb B8]
  · isplitl [Htb] <;> iassumption
  icases Hs with ⟨Hs, Hcc⟩
  ihave Hs := (sigSt_zero c) $$ [HO Hs]
  · isplitl [HO] <;> iassumption
  iapply (part1_spec I Kn c) $$ [Hs Hcb Hab]
  · isplitr; · iexact HR
    isplitr; · iexact Hlev
    isplitl [Hs]; · iexact Hs
    isplitl [Hcb] <;> iassumption
  iintro ⟨HO, Hvb, Hrs⟩
  -- ranks, routes, products
  iapply (seq c)
  iapply (part2_spec I c) $$ [He Hx B0]
  · isplitl [He]; · iexact He
    isplitl [Hx] <;> iassumption
  iintro ⟨He, Hx, B0⟩
  iapply (seq c)
  ihave B3 := (rankSt_zero I c) $$ B3
  iapply (part3_spec I c) $$ [B3]
  · iexact B3
  iintro B3
  iapply (seq c)
  iapply (part4_spec I c) $$ [B3]
  · iexact B3
  iintro B3
  iapply (seq c)
  iapply (part5_spec I c) $$ [B3]
  · iexact B3
  iintro B3
  iapply (seq c)
  iapply (part6_spec I c) $$ [B4 B5 B6]
  · isplitl [B4]; · iexact B4
    isplitl [B5] <;> iassumption
  iintro ⟨B4, B5, B6⟩
  iapply (seq c)
  ihave B2 := (ysSt_zero I c) $$ B2
  iapply (part7_spec I c) $$ [B0 B1 Hw B2]
  · isplitl [B0]; · iexact B0
    isplitl [B1]; · iexact B1
    isplitl [Hw] <;> iassumption
  iintro ⟨B0, B1, Hw, B2⟩
  iapply (seq c)
  iapply (part8_spec I c) $$ [B1 Hw B2]
  · isplitl [B1]; · iexact B1
    isplitl [Hw] <;> iassumption
  iintro ⟨B1, Hw, B2⟩
  iapply (seq c)
  iapply (part9_spec I c) $$ [B1 Hw B2 B4 B6 B5]
  · isplitl [B1]; · iexact B1
    isplitl [Hw]; · iexact Hw
    isplitl [B2]; · iexact B2
    isplitl [B4]; · iexact B4
    isplitl [B6] <;> iassumption
  iintro ⟨B1, Hw, Ht⟩
  -- the blocks
  ihave Hs := (to_blocks c) $$ [Hcc Hrs B7 Hts Htr]
  · isplitl [Hcc]; · iexact Hcc
    isplitl [Hrs]; · iexact Hrs
    isplitl [B7]; · iexact B7
    isplitl [Hts] <;> iassumption
  ihave Hs := (sendSt_zero I c) $$ [HO Hs]
  · isplitl [HO] <;> iassumption
  iapply (seq c)
  iapply (part10_spec I Kn c) $$ [Hs Ht]
  · isplitr; · iexact HR
    isplitl [Hs] <;> iassumption
  iintro ⟨Hs, Ht⟩
  iapply (seq c)
  iapply (part11_spec I Kn c) $$ [Hs Ht]
  · isplitr; · iexact HR
    isplitl [Hs] <;> iassumption
  iintro ⟨Hs, Ht⟩
  iapply (seq c)
  iapply (part12_spec I Kn c) $$ [Hs Ht]
  · isplitr; · iexact HR
    isplitl [Hs] <;> iassumption
  iintro ⟨Hs, Ht⟩
  iapply (seq c)
  iapply (part13_spec I Kn c) $$ [Hs Ht]
  · isplitr; · iexact HR
    isplitl [Hs] <;> iassumption
  iintro ⟨Hs, Ht⟩
  iapply (seq c)
  iapply (part14_spec I Kn c) $$ [Hs Ht]
  · isplitr; · iexact HR
    isplitl [Hs] <;> iassumption
  iintro ⟨Hs, Ht⟩
  iapply (seq c)
  iapply (part15_spec I Kn c) $$ [Hs Ht]
  · isplitr; · iexact HR
    isplitl [Hs] <;> iassumption
  iintro ⟨Hs, Ht⟩
  iapply (seq c)
  iapply (part16_spec I Kn c) $$ [Hs Ht]
  · isplitr; · iexact HR
    isplitl [Hs] <;> iassumption
  iintro ⟨Hs, Ht⟩
  iapply (seq c)
  iapply (part17_spec I Kn c) $$ [Hs Ht]
  · isplitr; · iexact HR
    isplitl [Hs] <;> iassumption
  iintro ⟨Hs, Ht⟩
  ihave Hs := (sendSt_end I c) $$ Hs
  icases Hs with ⟨HO, Hs⟩
  ihave Hs := (to_waits c (pair I)) $$ [Hs Hcr Har Has]
  · isplitl [Hs]; · iexact Hs
    isplitl [Hcr]; · iexact Hcr
    isplitl [Har] <;> iassumption
  icases Hs with ⟨Hs, Hd⟩
  ihave Hs := (arrSt_zero I c) $$ [HO Hs]
  · isplitl [HO] <;> iassumption
  icases Ht with ⟨B2, B4, B6, B5⟩
  -- the arrivals and the result
  iapply (seq c)
  iapply (part18_spec I Kn c) $$ [Hs B4]
  · isplitr; · iexact HR
    isplitl [Hs] <;> iassumption
  iintro ⟨Hs, B4⟩
  ihave Hs := (arrSt_end I c) $$ Hs
  icases Hs with ⟨HO, Hs⟩
  ihave Hs := (from_arrivals c (pair I)) $$ Hs
  icases Hs with ⟨B8, Hvr⟩
  iapply (seq c)
  iapply (part19_spec I c) $$ [B6 B5 B8]
  · isplitl [B6]; · iexact B6
    isplitl [B5] <;> iassumption
  iintro ⟨B6, B5, B8⟩
  iapply (seq c)
  iapply (part20_spec I c) $$ [B8]
  · iexact B8
  iintro B8
  iapply (seq c)
  iapply (part21_spec I c) $$ [B8 Ho]
  · isplitl [B8] <;> iassumption
  iintro ⟨B8, Ho⟩
  -- the departures
  ihave Hs := (depSt_zero c) $$ [HO Hd]
  · isplitl [HO] <;> iassumption
  iapply (step_depart (pair I) Kn c 0 rfl (m := 1) rfl (other_iff c 0) rfl (by exact credit_send 0)) $$ [Hs]
  · isplitr; · iexact HR
    iexact Hs
  iintro Hs
  iapply (step_depart (pair I) Kn c 1 rfl (m := 2) rfl (other_iff c 1) rfl (by exact credit_send 1)) $$ [Hs]
  · isplitr; · iexact HR
    iexact Hs
  iintro Hs
  iapply (step_depart (pair I) Kn c 2 rfl (m := 3) rfl (other_iff c 2) rfl (by exact credit_send 2)) $$ [Hs]
  · isplitr; · iexact HR
    iexact Hs
  iintro Hs
  iapply (step_depart (pair I) Kn c 3 rfl (m := 4) rfl (other_iff c 3) rfl (by exact credit_send 3)) $$ [Hs]
  · isplitr; · iexact HR
    iexact Hs
  iintro Hs
  iapply (step_depart (pair I) Kn c 4 rfl (m := 5) rfl (other_iff c 4) rfl (by exact credit_send 4)) $$ [Hs]
  · isplitr; · iexact HR
    iexact Hs
  iintro Hs
  iapply (step_depart (pair I) Kn c 5 rfl (m := 6) rfl (other_iff c 5) rfl (by exact credit_send 5)) $$ [Hs]
  · isplitr; · iexact HR
    iexact Hs
  iintro Hs
  iapply (step_depart (pair I) Kn c 6 rfl (m := 7) rfl (other_iff c 6) rfl (by exact credit_send 6)) $$ [Hs]
  · isplitr; · iexact HR
    iexact Hs
  iintro Hs
  iapply (ret_as c (word c) rfl)
  iapply (step_depart (pair I) Kn c 7 rfl (m := 8) rfl (other_iff c 7) rfl (by exact credit_send 7)) $$ [Hs]
  · isplitr; · iexact HR
    iexact Hs
  iintro Hs
  ihave Hs := (depSt_end c) $$ Hs
  icases Hs with ⟨HO, Hs⟩
  ihave Hs := (from_departures c) $$ Hs
  icases Hs with ⟨B7, Hvs⟩
  iapply (ret_as c (Q := Q) ⟨⟩ rfl)
  iapply Hk
  isplitl [HO]; · iexact HO
  isplitl [Hvb Hvr Hvs]
  · isplitl [Hvb]; · iexact Hvb
    isplitl [Hvr] <;> iassumption
  isplitl [B0 B1 B2 B3 B4 B5 B6 B7 B8]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexact B7
    iexists _; iexact B8
  isplitl [He]; · iexact He
  isplitl [Hx]; · iexact Hx
  isplitl [Hw] <;> iassumption

end Phases
end Cert.KernelIdealProof
end
-- ==== Proof.KernelIdealLaunch.lean ====
/-
The launch: the ghost state of the protocol's cells dealt to the devices, the credit each device starts with, and the run
of the whole program, which ends with every semaphore at zero, the arguments as they were and each device's result at the
contents `out`.
-/
module

public import proofs.«01_k».proof.Proof.KernelIdealWhole
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-- The devices' operands as the staging buffers hold them. -/
def ins : Ins F where
  e c := (win0_0.blk (0 : Fin 1)).view.read (Elt F) (m ((c : Thread nD τ).loc main_arg2))
  x c := (win0_1.blk (0 : Fin 1)).view.read (Elt F) (m ((c : Thread nD τ).loc main_arg0))
  w c := (win0_2.blk (0 : Fin 1)).view.read (Elt F) (m ((c : Thread nD τ).loc main_arg3))

abbrev RD : Rounds.Schedule (GSem nD τ sig) (Dev nD) 𝕄 := rd (Gof (pair (ins m)))

/-! ## The data of the one region -/

/-- What a device's body starts from. -/
def start (c : Dev nD) : sProp 𝕄 :=
  iprop((∃ K, records (Gof (pair (ins m))) K) ∗ levAts L lv ∗ ghost (F := F) c)
def Φ₀ (c : Dev nD) : sProp 𝕄 := iprop(start m c ∗ scratch c)
def Φ₁ (c : Dev nD) : sProp 𝕄 := iprop(semsZero (F := F) c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).e c
    | ⟨1, _⟩ => (ins m).x c
    | ⟨2, _⟩ => (ins m).w c
    | ⟨3, _⟩ => out (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body at the region's one point -/

section Body

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_pts (c : Dev nD) (b : Ref sig .tc) (X : b.ty.Contents (Elt F)) : (stg c b X : sProp 𝕄) ⊢ pts c b X := by
  iintro ⟨%f, %h, H⟩
  subst h
  iexact H
omit [FloatOps F] in
theorem pts_stg (c : Dev nD) (b : Ref sig .tc) (X : b.ty.Contents (Elt F)) : pts c b X ⊢ (stg c b X : sProp 𝕄) := by
  iintro H
  iexists X
  isplitr; · (ipureintro; rfl)
  iexact H

theorem before_e (c : Dev nD) (d) : (dats m ρ 0 c).before (0 : Fin 4) t0_0 d = (ins m).e c := by
  unfold Dat.before; rw [if_pos (fetch0_0 t0_0)]; rfl
theorem before_x (c : Dev nD) (d) : (dats m ρ 0 c).before (1 : Fin 4) t0_0 d = (ins m).x c := by
  unfold Dat.before; rw [if_pos (fetch0_1 t0_0)]; rfl
theorem before_w (c : Dev nD) (d) : (dats m ρ 0 c).before (2 : Fin 4) t0_0 d = (ins m).w c := by
  unfold Dat.before; rw [if_pos (fetch0_2 t0_0)]; rfl

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 ((ins m).e c) ∗ stg c cc0_stg1_0 ((ins m).x c)
    ∗ stg c cc0_stg2_0 ((ins m).w c) ∗ stg c cc0_stg3_0 (out (ins m) c))

theorem sound_body (c : Dev nD) : bodyPre m ρ c ⊢ WP c (onOps (cc0_body (F := F))) (fun _ => bodyPost m ρ c) := by
  unfold bodyPre Φ₀ start
  iintro ⟨⟨⟨⟨%K, #HR⟩, Hlev, Hg⟩, Hsc⟩, Ho, ⟨%d0, H0⟩, ⟨%d1, H1⟩, ⟨%d2, H2⟩, ⟨%d3, %f3, -, H3⟩⟩
  ihave H0 := (stg_pts c _ _) $$ H0
  ihave H1 := (stg_pts c _ _) $$ H1
  ihave H2 := (stg_pts c _ _) $$ H2
  rw [before_e, before_x, before_w]
  unfold Dat.owesAt Pipeline.owesWithin
  icases Ho with ⟨%W, -, HO⟩
  rw [show (dats m ρ 0 c).owed t0_0.castSucc = O₀ c from rfl]
  iapply (body_spec (ins m) K c) $$ [Hlev Hg Hsc HO H0 H1 H2 H3]
  · isplitr; · iexact HR
    isplitl [Hlev]; · iexact Hlev
    isplitl [HO]; · iexists W; iexact HO
    isplitl [Hg]; · iexact Hg
    isplitl [Hsc]; · iexact Hsc
    isplitl [H0]; · iexact H0
    isplitl [H1]; · iexact H1
    isplitl [H2]; · iexact H2
    iexists f3; iexact H3
  iintro ⟨⟨%W', HO⟩, Hz, Hsc, H0, H1, H2, H3⟩
  unfold bodyPost Φ₁ Dat.owesAt Pipeline.owesWithin
  rw [show (dats m ρ 0 c).owed t0_0.succ = 0 from rfl]
  isplitl [Hz Hsc]; · isplitl [Hz] <;> iassumption
  isplitl [HO]
  · iexists W'
    isplitr; · ipureintro; exact fun _ _ => Or.inl trivial
    iexact HO
  isplitl [H0]; · iapply (pts_stg c _ _); iexact H0
  isplitl [H1]; · iapply (pts_stg c _ _); iexact H1
  isplitl [H2]; · iapply (pts_stg c _ _); iexact H2
  iapply (pts_stg c _ _); iexact H3

set_option maxRecDepth 4000 in
/-- The region's obligation on its body, on core `c`. -/
theorem body_obligation (c : Dev nD) : BodyObligation (dats (F := F) m ρ 0 c) (defs₀ (F := F)) 𝒱₀ () Set.univ := fun t => by
  rw [show t = t0_0 from fin_N0 t]
  rw [show (∀ Φ : Fin cfg0.W → sProp 𝕄, bigSep Finset.univ Φ = iprop(Φ (0 : Fin 4) ∗ Φ (1 : Fin 4) ∗ Φ (2 : Fin 4) ∗ Φ (3 : Fin 4))) from fun Φ => bigSep_W0 Φ,
    show (∀ Φ : Fin cfg0.W → sProp 𝕄, bigSep Finset.univ Φ = iprop(Φ (0 : Fin 4) ∗ Φ (1 : Fin 4) ∗ Φ (2 : Fin 4) ∗ Φ (3 : Fin 4))) from fun Φ => bigSep_W0 Φ]
  simp only [owns_whole_eq]
  show bodyPre m ρ c ⊢ WP c (onOps (cc0_body (F := F))) (fun _ => bodyPost m ρ c)
  exact sound_body m ρ c

end Body

/-! ## The launch's ghost state -/

abbrev osem : Bool × Dev nD → SemLoc sig := fun
  | (false, b) => .dma (sendS b)
  | (true, s) => .dma (recvS s)

theorem ownSemFacts : Pipeline.OwnSemFacts cfg0.spec osem := by decide

theorem share_eq (c : Dev nD) (w : Fin cfg0.W) : (dats m ρ 0 c).share w = fullShare := by unfold Dat.share; split <;> rfl

def kCells : Finset (GSem nD τ sig) := Finset.univ.map ⟨kcell, kcell_injective⟩

/-- The duties' tokens, by kind and two devices: at the barrier of the first for the second; at the first's send semaphore
    for the second's block, for the first itself; at the first's receive semaphore of the second's slot, for the second. -/
abbrev tokOf : Fin 3 × Dev nD × Dev nD → GSem nD τ sig × ℕ × Dev nD := fun
  | (0, c, d) => (barCell c, 0, d)
  | (1, c, d) => (sendCell c d, 0, c)
  | (2, c, d) => (recvCell c d, 0, d)

theorem sendS_inj {a b : Dev nD} (h : sendS a = sendS b) : a = b :=
  congrArg (fun k : SemIx => (k.getD (false, a)).2) (csem_inj (a₁ := some (false, a)) (a₂ := some (false, b)) (congrArg SemLoc.dma h))

theorem sendS_ne_recvS (a b : Dev nD) : sendS a ≠ recvS b := fun h => by
  have := csem_inj (a₁ := some (false, a)) (a₂ := some (true, b)) (congrArg SemLoc.dma h)
  cases this

theorem tokOf_injective : Function.Injective tokOf := by
  rintro ⟨j, c, d⟩ ⟨j', c', d'⟩ h
  have h1 : c = c' := by
    have := congrArg (fun x : GSem nD τ sig × ℕ × Dev nD => x.1.1.1) h
    fin_cases j <;> fin_cases j' <;> exact this
  subst h1
  have h2 : (tokOf (j, c, d)).1.2 = (tokOf (j', c, d')).1.2 := congrArg (fun x : GSem nD τ sig × ℕ × Dev nD => x.1.2) h
  have h3 : (tokOf (j, c, d)).2.2 = (tokOf (j', c, d')).2.2 := congrArg (fun x : GSem nD τ sig × ℕ × Dev nD => x.2.2) h
  fin_cases j <;> fin_cases j'
  · have h3 : d = d' := h3
    rw [h3]
  · cases h2
  · cases h2
  · cases h2
  · have h2 : SemLoc.dma (sendS d) = (SemLoc.dma (sendS d') : SemLoc sig) := h2
    have h4 : d = d' := sendS_inj (by injection h2)
    rw [h4]
  · have h2 : SemLoc.dma (sendS d) = (SemLoc.dma (recvS d') : SemLoc sig) := h2
    exact absurd (by injection h2) (sendS_ne_recvS d d')
  · cases h2
  · have h2 : SemLoc.dma (recvS d) = (SemLoc.dma (sendS d') : SemLoc sig) := h2
    exact absurd (by injection h2 with h; exact h.symm) (sendS_ne_recvS d' d)
  · have h3 : d = d' := h3
    rw [h3]

def kToks : Finset (GSem nD τ sig × ℕ × Dev nD) := Finset.univ.map ⟨tokOf, tokOf_injective⟩

def u₀ : UU :=
  (initOf (Pipeline.cells cfgs cellOf_inj) (Pipeline.launchToks cfgs cellOf_inj), initOf kCells kToks)

/-- The tokens of the duties device `c` pays. -/
def payToks (c : Dev nD) : sProp 𝕄 := iprop(tokBar (F := F) c ∗ tokSend c ∗ tokRecv c)

/-- What the launch deals device `c`, -/
def G (c : Dev nD) : sProp 𝕄 :=
  iprop((bigSep Finset.univ fun k : SemIx => roundState ER (RD m) (kcell (c, k)) 0)
    ∗ (bigSep Finset.univ fun k : SemIx => iprop(atPos ER (kcell (c, k)) 0 ∅ 0 ∗ reached ER (kcell (c, k)) 0)) ∗ payToks c)

/-- and what the step over all devices makes of it. -/
def G' (c : Dev nD) : sProp 𝕄 :=
  iprop((∃ K, records (Gof (pair (ins m))) K) ∗ (bigSep Finset.univ fun k : SemIx => atPos ER (kcell (c, k)) 0 ∅ 0) ∗ payToks c)

omit [FloatOps F] in
/-- A device's semaphores one kind after the other. -/
theorem bigSep_semIx (Φ : SemIx → sProp 𝕄) :
    bigSep Finset.univ Φ = iprop(Φ none ∗ (bigSep Finset.univ fun b : Dev nD => Φ (some (false, b))) ∗ bigSep Finset.univ fun s : Dev nD => Φ (some (true, s))) := by
  rw [bigSep_univ_at Φ none, show (Finset.univ.erase none : Finset SemIx) = Finset.univ.map ⟨some, Option.some_injective _⟩ from by decide,
    bigSep_map, bigSep_univ_prod, bigSep_univ_eq_bigSepL [false, true] (by decide) (by decide)]
  rfl

omit [FloatOps F] in
/-- Every pair of devices' token, of which those of a device with itself are let go. -/
theorem off_diag (Φ : Dev nD → sProp 𝕄) (c : Dev nD) : bigSep Finset.univ Φ ⊢ bigSep (Finset.univ.erase c) Φ :=
  bigSep_subset (Finset.erase_subset _ _)

omit [FloatOps F] in
/-- The tokens, each with the device that pays it. -/
theorem deal : bigSep kToks (fun x => (dutyTok ER x.1 x.2.1 x.2.2 : sProp 𝕄)) ⊢ bigSep Finset.univ fun c : Dev nD => payToks c := by
  unfold kToks payToks
  rw [bigSep_map, bigSep_univ_prod, bigSep_univ_eq_bigSepL [(0 : Fin 3), 1, 2] (by decide) (by decide), bigSep_sep', bigSep_sep']
  show iprop((bigSep Finset.univ fun p : Dev nD × Dev nD => dutyTok ER (barCell p.1) 0 p.2)
      ∗ (bigSep Finset.univ fun p : Dev nD × Dev nD => dutyTok ER (sendCell p.1 p.2) 0 p.1)
      ∗ bigSep Finset.univ fun p : Dev nD × Dev nD => dutyTok ER (recvCell p.1 p.2) 0 p.2) ⊢ _
  refine BI.sep_mono ?_ (BI.sep_mono ?_ ?_)
  · rw [bigSep_univ_prod]
    refine (bigSep_mono fun c _ => off_diag _ c).trans ?_
    rw [bigSep_erase_comm]
    exact BI.Entails.refl _
  · rw [bigSep_univ_prod]
    exact bigSep_mono fun c _ => off_diag _ c
  · rw [bigSep_univ_prod]
    refine (bigSep_mono fun c _ => off_diag _ c).trans ?_
    rw [bigSep_erase_comm]
    exact BI.Entails.refl _

theorem fund_cells : BI.own (ER (initOf kCells kToks)) ⊢ (|==> bigSep Finset.univ (G m) : sProp 𝕄) := by
  have hX (Φ : GSem nD τ sig → sProp 𝕄) : bigSep kCells Φ = bigSep Finset.univ fun c : Dev nD => bigSep Finset.univ fun k : SemIx => Φ (kcell (c, k)) := by
    unfold kCells; rw [bigSep_map, bigSep_univ_prod]; rfl
  iintro HX
  imod (Rounds.fund ER (RD m) kCells kToks) $$ HX with ⟨Hst, Hr, Hat, Htok⟩
  imodintro
  ihave Hst' := (Entails.of_eq (hX fun g => roundState ER (RD m) g 0)) $$ Hst
  ihave Hat' := (Entails.of_eq (hX fun g => atPos ER g 0 ∅ 0)) $$ Hat
  ihave Hr' := (Entails.of_eq (hX fun g => reached ER g 0)) $$ Hr
  ihave Htok' := (deal (F := F)) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun b : Dev nD => semVal (sendCell c b) 0) ∗ bigSep Finset.univ fun s : Dev nD => semVal (recvCell c s) 0) := by
  unfold Pipeline.ownSems0
  rw [bigSep_univ_prod, bigSep_univ_eq_bigSepL [false, true] (by decide) (by decide)]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : SemIx => semVal (kcell (c, k)) 0 : sProp 𝕄) := by
  rw [ownSems0_eq, unscopedSems0_eq, bigSep_semIx]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (RD m) κ (kcell (c, k))))
          ∗ (bigSep Finset.univ fun k => iprop(atPos ER (kcell (c, k)) 0 ∅ 0 ∗ reached ER (kcell (c, k)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : SemIx => semVal (kcell (c, k)) 0) ∗ bigSep Finset.univ fun k : SemIx => roundState ER (RD m) (kcell (c, k)) 0)
      ⊢ (|={Set.univ}=> bigSep Finset.univ fun k => iprop(∃ κ : ℕ, cellInv ER (RD m) κ (kcell (c, k))) : sProp 𝕄) from by
        rw [← bigSep_sep']
        exact (bigSep_mono fun k _ => (Rounds.body_intro ER (RD m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × SemIx → ℕ) (c : Dev nD) :
    iprop(records (Gof (pair (ins m))) K ∗ (bigSep Finset.univ fun k : SemIx => atPos ER (kcell (c, k)) 0 ∅ 0) ∗ payToks c) ⊢ G' m c := by
  unfold G'
  iintro ⟨#HR, Hat, Htok⟩
  isplitr; · iexists K; iexact HR
  isplitl [Hat] <;> iassumption

theorem regroup :
    (bigSep Finset.univ fun c : Dev nD => iprop((bigSep Finset.univ fun k => iprop(∃ κ : ℕ, cellInv ER (RD m) κ (kcell (c, k))))
          ∗ (bigSep Finset.univ fun k => iprop(atPos ER (kcell (c, k)) 0 ∅ 0 ∗ reached ER (kcell (c, k)) 0)) ∗ payToks c) : sProp 𝕄)
      ⊢ bigSep Finset.univ (G' m) := by
  rw [bigSep_sep', bigSep_sep', ← bigSep_univ_prod (fun ck : Dev nD × SemIx => iprop(∃ κ : ℕ, cellInv ER (RD m) κ (kcell ck))),
    bigSep_congr (s := Finset.univ) (fun (c : Dev nD) _ => bigSep_sep' Finset.univ (fun k : SemIx => (atPos ER (kcell (c, k)) 0 ∅ 0 : sProp 𝕄)) (fun k => reached ER (kcell (c, k)) 0)),
    bigSep_sep', ← bigSep_univ_prod (fun ck : Dev nD × SemIx => (reached ER (kcell ck) 0 : sProp 𝕄))]
  iintro ⟨HI, ⟨Hat, #HR⟩, Htok⟩
  ihave HK := (BI.bigSep_exists_pi Finset.univ (fun (ck : Dev nD × SemIx) (κ : ℕ) => (cellInv ER (RD m) κ (kcell ck) : sProp 𝕄))) $$ HI
  icases HK with ⟨%K, #HI⟩
  iapply (bigSep_with_persistent (R := records (Gof (pair (ins m))) K) fun c _ => ghost_intro m K c)
  isplitr
  · unfold records; isplitl; · iexact HI
    iexact HR
  · iapply (Entails.of_eq (bigSep_sep' Finset.univ (fun c : Dev nD => bigSep Finset.univ fun k : SemIx => (atPos ER (kcell (c, k)) 0 ∅ 0 : sProp 𝕄)) payToks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

theorem barCell_inj {a b : Dev nD} (h : barCell a = barCell b) : a = b := Fin.ext (congrArg (fun g : GSem nD τ sig => g.1.1.val) h)
theorem recvCell_inj {a b s t : Dev nD} (h : recvCell a s = recvCell b t) : a = b ∧ s = t := by
  have := kcell_injective (a₁ := (a, some (true, s))) (a₂ := (b, some (true, t))) h
  injection this with h1 h2
  injection h2 with h2
  injection h2 with _ h2
  exact ⟨h1, h2⟩
theorem recv_ne_bar (a b s : Dev nD) : recvCell a s ≠ barCell b := fun h => by
  have := congrArg Prod.snd h
  cases this

/-- What device `d` owes device `c`'s barrier. -/
theorem owed_bar (d c : Dev nD) : O₀ d (barCell c) () = if c = d then 0 else 1 := by
  unfold O₀
  rw [Pi.add_apply, Finsupp.add_apply, sumFrom_apply, sumFrom_apply, Finset.sum_eq_zero, Finset.sum_eq_single c, zero_add, if_pos (Nat.zero_le _)]
  · unfold barDebt; split
    · rfl
    · rw [tallyAt_apply, if_pos ⟨rfl, rfl⟩]
  · intro p _ hp
    rw [if_pos (Nat.zero_le _)]
    unfold barDebt; split
    · rfl
    · rw [tallyAt_apply, if_neg fun h => hp (barCell_inj h.1).symm]
  · exact fun h => absurd (Finset.mem_univ _) h
  · intro p _
    rw [if_pos (Nat.zero_le _)]
    unfold recvDebt; split
    · rfl
    · rw [tallyAt_apply, if_neg fun h => recv_ne_bar p c d h.1.symm]

/-- What device `d` owes device `c`'s receive semaphore of slot `s`. -/
theorem owed_recv {c s : Dev nD} (hs : s ≠ c) (d : Dev nD) : O₀ d (recvCell c s) () = if d = s then N else 0 := by
  unfold O₀
  rw [Pi.add_apply, Finsupp.add_apply, sumFrom_apply, sumFrom_apply, Finset.sum_eq_single c, Finset.sum_eq_zero, add_zero, if_pos (Nat.zero_le _)]
  · unfold recvDebt; split
    · next h => rw [if_neg fun h' => hs (h'.symm.trans h.symm)]; rfl
    · by_cases h : d = s
      · rw [h, tallyAt_apply, if_pos ⟨rfl, rfl⟩, if_pos rfl]
      · rw [tallyAt_apply, if_neg fun h' => h (recvCell_inj h'.1).2.symm, if_neg h]
  · intro p _
    rw [if_pos (Nat.zero_le _)]
    unfold barDebt; split
    · rfl
    · rw [tallyAt_apply, if_neg fun h => recv_ne_bar c p s h.1]
  · intro p _ hp
    rw [if_pos (Nat.zero_le _)]
    unfold recvDebt; split
    · rfl
    · rw [tallyAt_apply, if_neg fun h => hp (recvCell_inj h.1).1.symm]
  · exact fun h => absurd (Finset.mem_univ _) h

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv {c s : Dev nD} (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv hs d, Finset.sum_ite_eq' Finset.univ s fun _ => N,
    if_pos (Finset.mem_univ _)]

theorem recvLoc_inj : Function.Injective fun s : Dev nD => (SemLoc.dma (recvS s) : SemLoc sig) := fun s t h =>
  (recvCell_inj (a := s) (b := s) (congrArg (Prod.mk (s : Thread nD τ)) h)).2

omit [FloatOps F] in
theorem creds (c : Dev nD) :
    (Pipeline.launchCred O₀ c : sProp 𝕄) ⊢ iprop(cred (tallyAt (barCell c) () 7) ∗ bigSep (Finset.univ.erase c) fun s => cred (tallyAt (recvCell c s) () N)) := by
  unfold Pipeline.launchCred
  rw [bigSep_univ_at _ (SemLoc.reg barS), launch_bar]
  refine sep_mono_right ?_
  refine (bigSep_subset (t := (Finset.univ.erase c).map ⟨fun s : Dev nD => SemLoc.dma (recvS s), recvLoc_inj⟩) fun sm h => ?_).trans ?_
  · obtain ⟨s, -, rfl⟩ := Finset.mem_map.mp h
    exact Finset.mem_erase.mpr ⟨fun h => (by cases h), Finset.mem_univ _⟩
  · rw [bigSep_map]
    exact bigSep_mono fun s hs => Entails.of_eq (congrArg cred (launch_recv (Finset.mem_erase.mp hs).1))

/-! ## The launch's side conditions -/

/-- The one array the kernel does not take. -/
def other (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ other m c) := by
  rw [Pipeline.unscopedRestP_none, unscopedRest0_eq]
  unfold start G' other ghost payToks
  rw [bigSep_semIx]
  iintro ⟨Ho, Hlev, Hcr, -, HR, ⟨Hab, Has, Har⟩, Htb, Hts, Htr⟩
  ihave Hc := (creds (F := F) c) $$ Hcr
  icases Hc with ⟨H1, HN⟩
  imodintro
  isplitr [Ho]
  · isplitl [HR]; · iexact HR
    isplitl [Hlev]; · iexact Hlev
    isplitl [Htb]; · iexact Htb
    isplitl [Hts]; · iexact Hts
    isplitl [Htr]; · iexact Htr
    isplitl [H1]; · iexact H1
    isplitl [HN]; · iexact HN
    isplitl [Hab]; · iexact Hab
    isplitl [Har] <;> iassumption
  · iexact Ho

theorem scratch_eq (c : Dev nD) : (Pipeline.scopedRest cfg0.spec c : sProp 𝕄) = scratch c := by
  rw [scopedRest0_eq]; unfold scratch; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq]
  unfold Φ₁ semsZero
  iintro ⟨⟨HzB, HzR, HzS⟩, Hr⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem exit_read (c : Dev nD) (s' : Phys nD τ sig (Elt F)) :
    iprop(unscopedSems0 c ∗ other m c ∗ (SI s' : sProp 𝕄))
      ⊢ |={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') := by
  unfold other
  iintro ⟨Hu, Ho, HSI⟩
  imod (Pipeline.unscopedSems0_read (X := unscopedSems0 c) (c := c) fupd_intro s') $$ [Hu HSI] with ⟨%h1, HSI⟩
  · isplitl [Hu] <;> iassumption
  ihave H := (pointsTo_read_all ({()} : Finset Unit) (fun _ => (c : Thread nD τ).loc main_arg1) (fun _ => m ((c : Thread nD τ).loc main_arg1)) s') $$ [Ho HSI]
  · rw [bigSep_singleton]
    isplitl [Ho]; · iexact Ho
    iexact HSI
  icases H with ⟨%h2, HSI⟩
  imodintro
  isplitr; · ipureintro; exact ⟨h1, h2 () (Finset.mem_singleton_self _)⟩
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- On eight devices, for any float values, from any memory with zero semaphores: every fair execution ends, each
    device's arrays then hold the computed contents, and every semaphore is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := other m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := exit_read m)
    (hQ := fun _ h hs => ⟨fun c => ⟨fun w => (h c).1 w, (h c).2.2.2⟩, sem_eq_zero hs fun c => (h c).2.2.1⟩)

/-- The arrays the kernel reads hold what they held, -/
theorem finalA_e (c : Dev nD) : finalA m ρ c (0 : Fin 4) = m ((c : Thread nD τ).loc main_arg2) := (dats (F := F) m ρ 0 c).arrAt_in (0 : Fin 4) rfl _
theorem finalA_x (c : Dev nD) : finalA m ρ c (1 : Fin 4) = m ((c : Thread nD τ).loc main_arg0) := (dats (F := F) m ρ 0 c).arrAt_in (1 : Fin 4) rfl _
theorem finalA_w (c : Dev nD) : finalA m ρ c (2 : Fin 4) = m ((c : Thread nD τ).loc main_arg3) := (dats (F := F) m ρ 0 c).arrAt_in (2 : Fin 4) rfl _

/-- and the result is what the body leaves in its buffer. -/
theorem finalA_out (c : Dev nD) : finalA m ρ c (3 : Fin 4) = out (ins m) c := by
  refine (dats m ρ 0 c).arrAt_eq_of_covers (3 : Fin 4) _ (by decide +kernel) fun t hf y => ?_
  rw [show t = t0_0 from fin_N0 t]
  refine congrArg (out (ins m) c) (funext fun a => Fin.ext ?_)
  blk_simp
  have h0 : win0_3.index t0_0 (0 : Fin 2) = 0 := by decide +kernel
  have h1 : win0_3.index t0_0 (1 : Fin 2) = 0 := by decide +kernel
  fin_cases a
  · exact (Nat.zero_add _).symm.trans (congrArg (· + (y (0 : Fin 2)).val) ((congrArg (· * _) h0).trans (Nat.zero_mul _)).symm)
  · exact (Nat.zero_add _).symm.trans (congrArg (· + (y (1 : Fin 2)).val) ((congrArg (· * _) h1).trans (Nat.zero_mul _)).symm)

/-- The operands are the arrays the device holds at the start, whole. -/
theorem ins_e (c : Dev nD) : (ins m).e c = m ((c.tc : Thread nD τ).loc main_arg2) := by
  have h0 : win0_0.index t0_0 (0 : Fin 2) = 0 := by decide +kernel
  have h1 : win0_0.index t0_0 (1 : Fin 2) = 0 := by decide +kernel
  funext y
  show m ((c.tc : Thread nD τ).loc main_arg2) ((win0_0.blk t0_0).view.emb y) = m ((c.tc : Thread nD τ).loc main_arg2) y
  refine congrArg (m ((c.tc : Thread nD τ).loc main_arg2)) (funext fun a => Fin.ext ?_)
  blk_simp
  fin_cases a
  · exact (congrArg (· + (y (0 : Fin 2)).val) ((congrArg (· * _) h0).trans (Nat.zero_mul _))).trans (Nat.zero_add _)
  · exact (congrArg (· + (y (1 : Fin 2)).val) ((congrArg (· * _) h1).trans (Nat.zero_mul _))).trans (Nat.zero_add _)
theorem ins_x (c : Dev nD) : (ins m).x c = m ((c.tc : Thread nD τ).loc main_arg0) := by
  have h0 : win0_1.index t0_0 (0 : Fin 2) = 0 := by decide +kernel
  have h1 : win0_1.index t0_0 (1 : Fin 2) = 0 := by decide +kernel
  funext y
  show m ((c.tc : Thread nD τ).loc main_arg0) ((win0_1.blk t0_0).view.emb y) = m ((c.tc : Thread nD τ).loc main_arg0) y
  refine congrArg (m ((c.tc : Thread nD τ).loc main_arg0)) (funext fun a => Fin.ext ?_)
  blk_simp
  fin_cases a
  · exact (congrArg (· + (y (0 : Fin 2)).val) ((congrArg (· * _) h0).trans (Nat.zero_mul _))).trans (Nat.zero_add _)
  · exact (congrArg (· + (y (1 : Fin 2)).val) ((congrArg (· * _) h1).trans (Nat.zero_mul _))).trans (Nat.zero_add _)
theorem ins_w (c : Dev nD) : (ins m).w c = m ((c.tc : Thread nD τ).loc main_arg3) := by
  have h0 : win0_2.index t0_0 (0 : Fin 3) = 0 := by decide +kernel
  have h1 : win0_2.index t0_0 (1 : Fin 3) = 0 := by decide +kernel
  have h2 : win0_2.index t0_0 (2 : Fin 3) = 0 := by decide +kernel
  funext y
  show m ((c.tc : Thread nD τ).loc main_arg3) ((win0_2.blk t0_0).view.emb y) = m ((c.tc : Thread nD τ).loc main_arg3) y
  refine congrArg (m ((c.tc : Thread nD τ).loc main_arg3)) (funext fun a => Fin.ext ?_)
  blk_simp
  fin_cases a
  · exact (congrArg (· + (y (0 : Fin 3)).val) ((congrArg (· * _) h0).trans (Nat.zero_mul _))).trans (Nat.zero_add _)
  · exact (congrArg (· + (y (1 : Fin 3)).val) ((congrArg (· * _) h1).trans (Nat.zero_mul _))).trans (Nat.zero_add _)
  · exact (congrArg (· + (y (2 : Fin 3)).val) ((congrArg (· * _) h2).trans (Nat.zero_mul _))).trans (Nat.zero_add _)

/-- The run, read at the program's arguments and result. -/
theorem run_out : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = out (ins m) c) ∧ r.2.sem = fun _ => 0) :=
  (θ_run defs _ _).mono (fun r h => ⟨fun c =>
    ⟨((h.1 c).1 (1 : Fin 4)).trans (finalA_x m ρ c), (h.1 c).2, ((h.1 c).1 (0 : Fin 4)).trans (finalA_e m ρ c),
      ((h.1 c).1 (2 : Fin 4)).trans (finalA_w m ρ c), ((h.1 c).1 (3 : Fin 4)).trans (finalA_out m ρ c)⟩, h.2⟩) (run_main m ρ)

end Cert.KernelIdealProof

end
-- ==== Proof.Tokens.lean ====
/-
Counting tokens. Each of 2048 tokens names an expert by a word. A token's rank is the number of earlier tokens of the
same expert; a token is kept when its expert is one of the 64 and its rank is below 25. A kept token's place is the
number of earlier kept tokens of its block of 256 whose expert lies in the same group of 8. Ranks tell the tokens of one
expert apart, and places the kept tokens of one block and group. The sums below are the ones a program forms: counts
taken by multiplying tables of zeros and ones.
-/
module

public import Idealize.ShloMosaic.Lib.Routing.BitFacts
public import Idealize.ShloMosaic.PureOps.Ideal.Laws

@[expose] public section

open scoped BigOperators

namespace Cert.Tokens

/-- How many indices before `t` have the property. -/
def before (Q : Fin 2048 → Prop) [DecidablePred Q] (t : Fin 2048) : ℕ := ∑ s : Fin 2048, if s < t ∧ Q s then 1 else 0

theorem before_lt (Q : Fin 2048 → Prop) [DecidablePred Q] {s t : Fin 2048} (h : s < t) (hs : Q s) : before Q s < before Q t := by
  refine Finset.sum_lt_sum (fun i _ => ?_) ⟨s, Finset.mem_univ _, ?_⟩
  · by_cases hi : i < s ∧ Q i
    · rw [if_pos hi, if_pos ⟨hi.1.trans h, hi.2⟩]
    · rw [if_neg hi]; exact Nat.zero_le _
  · rw [if_neg (fun q => lt_irrefl _ q.1), if_pos ⟨h, hs⟩]; exact Nat.one_pos

/-- Two members with the same number of members before them are one. -/
theorem before_inj (Q : Fin 2048 → Prop) [DecidablePred Q] {s t : Fin 2048} (hs : Q s) (ht : Q t) (h : before Q s = before Q t) : s = t := by
  rcases lt_trichotomy s t with q | q | q
  · exact absurd h (before_lt Q q hs).ne
  · exact q
  · exact absurd h (before_lt Q q ht).ne'

theorem before_le (Q : Fin 2048 → Prop) [DecidablePred Q] (t : Fin 2048) : before Q t ≤ 2048 :=
  (Finset.sum_le_card_nsmul Finset.univ _ 1 (fun i _ => by split <;> omega)).trans (by simp)

theorem before_congr {Q Q' : Fin 2048 → Prop} [DecidablePred Q] [DecidablePred Q'] (h : ∀ s, Q s ↔ Q' s) (t : Fin 2048) : before Q t = before Q' t :=
  Finset.sum_congr rfl fun s _ => by simp only [h s]

/-- The token at place `r` of block `b`. -/
def tok (b : Fin 8) (r : Fin 256) : Fin 2048 := ⟨256 * b.val + r.val, by have := b.isLt; have := r.isLt; omega⟩

theorem tok_div (b : Fin 8) (r : Fin 256) : (tok b r).val / 256 = b.val := by
  have := r.isLt; show (256 * b.val + r.val) / 256 = _; omega
theorem tok_mod (b : Fin 8) (r : Fin 256) : (tok b r).val % 256 = r.val := by
  have := r.isLt; show (256 * b.val + r.val) % 256 = _; omega
theorem tok_lt (b : Fin 8) (r k : Fin 256) : tok b k < tok b r ↔ k < r := by
  show 256 * b.val + k.val < 256 * b.val + r.val ↔ k.val < r.val; omega
theorem tok_inj {b : Fin 8} {r k : Fin 256} (h : tok b k = tok b r) : k = r := by
  have h' : 256 * b.val + k.val = 256 * b.val + r.val := congrArg Fin.val h
  exact Fin.ext (by omega)

/-- A sum over a block is a sum over all the tokens. -/
theorem sum_tok {M : Type*} [AddCommMonoid M] (b : Fin 8) (g : Fin 2048 → M) :
    ∑ r : Fin 256, g (tok b r) = ∑ t : Fin 2048, if t.val / 256 = b.val then g t else 0 := by
  rw [← Finset.sum_filter]
  refine Finset.sum_bij (fun r _ => tok b r) (fun r _ => Finset.mem_filter.2 ⟨Finset.mem_univ _, tok_div b r⟩)
    (fun r _ k _ h => tok_inj h) (fun t ht => ?_) (fun r _ => rfl)
  have h := (Finset.mem_filter.1 ht).2
  exact ⟨⟨t.val % 256, Nat.mod_lt _ (by omega)⟩, Finset.mem_univ _, Fin.ext (by show 256 * b.val + t.val % 256 = t.val; omega)⟩

/-- The tokens before a token are those of earlier blocks and the earlier ones of its own. -/
theorem sum_before (f : Fin 2048 → ℕ) (b : Fin 8) (r : Fin 256) :
    (∑ k : Fin 256, (if k < r then 1 else 0) * f (tok b k))
        + ∑ a : Fin 8, (if a < b then 1 else 0) * ∑ t : Fin 2048, (if t.val / 256 = a.val then 1 else 0) * f t
      = ∑ t : Fin 2048, if t < tok b r then f t else 0 := by
  have h1 : (∑ k : Fin 256, (if k < r then 1 else 0) * f (tok b k))
      = ∑ t : Fin 2048, if t.val / 256 = b.val then (if t.val % 256 < r.val then f t else 0) else 0 := by
    rw [← sum_tok b (fun t => if t.val % 256 < r.val then f t else 0)]
    refine Finset.sum_congr rfl fun k _ => ?_
    rw [tok_mod, ite_mul, one_mul, zero_mul]; rfl
  have h2 : (∑ a : Fin 8, (if a < b then 1 else 0) * ∑ t : Fin 2048, (if t.val / 256 = a.val then 1 else 0) * f t)
      = ∑ t : Fin 2048, if t.val / 256 < b.val then f t else 0 := by
    simp only [Finset.mul_sum]
    rw [Finset.sum_comm]
    refine Finset.sum_congr rfl fun t _ => ?_
    have ht : t.val / 256 < 8 := by have := t.isLt; omega
    rw [Finset.sum_eq_single (⟨t.val / 256, ht⟩ : Fin 8)]
    · rw [if_pos (show t.val / 256 = t.val / 256 from rfl), one_mul, ite_mul, one_mul, zero_mul]; rfl
    · intro a _ ha
      rw [if_neg (show ¬t.val / 256 = a.val from fun q => ha (Fin.ext q.symm)), zero_mul, mul_zero]
    · exact fun q => absurd (Finset.mem_univ _) q
  rw [h1, h2, ← Finset.sum_add_distrib]
  refine Finset.sum_congr rfl fun t _ => ?_
  have hr := r.isLt
  have hiff : t < tok b r ↔ t.val < 256 * b.val + r.val := Iff.rfl
  by_cases q1 : t.val / 256 = b.val
  · rw [if_pos q1, if_neg (show ¬t.val / 256 < b.val by omega), add_zero]
    by_cases q2 : t.val % 256 < r.val
    · rw [if_pos q2, if_pos (hiff.2 (by omega))]
    · rw [if_neg q2, if_neg (fun q => by have := hiff.1 q; omega)]
  · rw [if_neg q1, zero_add]
    by_cases q2 : t.val / 256 < b.val
    · rw [if_pos q2, if_pos (hiff.2 (by omega))]
    · rw [if_neg q2, if_neg (fun q => by have := hiff.1 q; omega)]

section
variable (e : Fin 2048 → BitVec 32)

/-- A token's rank: the earlier tokens of its expert. -/
def rk (t : Fin 2048) : ℕ := before (fun s => e s = e t) t
/-- The token is kept. -/
def Kept (t : Fin 2048) : Prop := (e t).toNat < 64 ∧ rk e t < 25
instance : DecidablePred (Kept e) := fun t => inferInstanceAs (Decidable ((e t).toNat < 64 ∧ rk e t < 25))
/-- The group of its expert: the device that holds the expert. -/
def grp (t : Fin 2048) : ℕ := (e t).toNat / 8
/-- Kept, in block `b`, of group `g`. -/
def Fits (b g : ℕ) (s : Fin 2048) : Prop := s.val / 256 = b ∧ Kept e s ∧ grp e s = g
instance (b g : ℕ) : DecidablePred (Fits e b g) := fun s => inferInstanceAs (Decidable (s.val / 256 = b ∧ Kept e s ∧ grp e s = g))
/-- A token's place among the kept ones of its block and group. -/
def place (t : Fin 2048) : ℕ := before (Fits e (t.val / 256) (grp e t)) t

theorem rk_inj {s t : Fin 2048} (h : e s = e t) (hr : rk e s = rk e t) : s = t := by
  refine before_inj (fun q => e q = e t) h rfl ?_
  rw [← show rk e t = before (fun q => e q = e t) t from rfl, ← hr]
  exact before_congr (fun q => by rw [h]) s

theorem rk_le (t : Fin 2048) : rk e t ≤ 2048 := before_le _ t
theorem place_le (t : Fin 2048) : place e t ≤ 2048 := before_le _ t

theorem place_inj {s t : Fin 2048} (hb : s.val / 256 = t.val / 256) (hg : grp e s = grp e t) (hs : Kept e s) (ht : Kept e t)
    (h : place e s = place e t) : s = t := by
  refine before_inj (Fits e (t.val / 256) (grp e t)) ⟨hb, hs, hg⟩ ⟨rfl, ht, rfl⟩ ?_
  rw [← show place e t = before (Fits e (t.val / 256) (grp e t)) t from rfl, ← h]
  exact before_congr (fun q => by rw [hb, hg]) s

theorem grp_lt {t : Fin 2048} (h : Kept e t) : grp e t < 8 := by have := h.1; show (e t).toNat / 8 < 8; omega

/-- The one-hot table of the experts. -/
def hot (t : Fin 2048) (j : Fin 64) : ℕ := if e t = BitVec.ofNat 32 j.val then 1 else 0

theorem eq_ofNat_iff {n : ℕ} (hn : n < 2 ^ 32) (x : BitVec 32) : x = BitVec.ofNat 32 n ↔ x.toNat = n := by
  constructor
  · rintro rfl; rw [BitVec.toNat_ofNat, Nat.mod_eq_of_lt hn]
  · intro h; exact BitVec.eq_of_toNat_eq (by rw [BitVec.toNat_ofNat, Nat.mod_eq_of_lt hn, h])

theorem hot_iff (t : Fin 2048) (j : Fin 64) : e t = BitVec.ofNat 32 j.val ↔ (e t).toNat = j.val :=
  eq_ofNat_iff (by have := j.isLt; omega) _

/-- A sum over the experts weighted by a token's row of the table takes the row's one entry. -/
theorem sum_hot (f : Fin 64 → ℕ) (t : Fin 2048) :
    ∑ j : Fin 64, f j * hot e t j = if h : (e t).toNat < 64 then f ⟨(e t).toNat, h⟩ else 0 := by
  by_cases h : (e t).toNat < 64
  · rw [dif_pos h, Finset.sum_eq_single (⟨(e t).toNat, h⟩ : Fin 64)]
    · rw [hot, if_pos ((hot_iff e t _).2 rfl), mul_one]
    · intro j _ hj
      rw [hot, if_neg (fun q => hj (Fin.ext ((hot_iff e t j).1 q).symm)), mul_zero]
    · exact fun q => absurd (Finset.mem_univ _) q
  · rw [dif_neg h]
    refine Finset.sum_eq_zero fun j _ => ?_
    rw [hot, if_neg (fun q => h (by rw [(hot_iff e t j).1 q]; exact j.isLt)), mul_zero]

/-- The rank as the tables give it. -/
theorem rank_sum (b : Fin 8) (r : Fin 256) :
    ∑ j : Fin 64, ((∑ k : Fin 256, (if k < r then 1 else 0) * hot e (tok b k) j)
        + ∑ a : Fin 8, (if a < b then 1 else 0) * ∑ t : Fin 2048, (if t.val / 256 = a.val then 1 else 0) * hot e t j) * hot e (tok b r) j
      = if (e (tok b r)).toNat < 64 then rk e (tok b r) else 0 := by
  rw [Finset.sum_congr rfl fun j _ => by rw [sum_before (fun t => hot e t j) b r], sum_hot]
  by_cases h : (e (tok b r)).toNat < 64
  · rw [dif_pos h, if_pos h]
    unfold rk before
    refine Finset.sum_congr rfl fun t _ => ?_
    have hi : e t = BitVec.ofNat 32 (e (tok b r)).toNat ↔ e t = e (tok b r) := by rw [BitVec.ofNat_toNat, BitVec.setWidth_eq]
    by_cases q : t < tok b r
    · by_cases q' : e t = e (tok b r)
      · rw [if_pos q, if_pos ⟨q, q'⟩]; exact if_pos (hi.2 q')
      · rw [if_pos q, if_neg (fun z => q' z.2)]; exact if_neg (fun z => q' (hi.1 z))
    · rw [if_neg q, if_neg (fun z => q z.1)]
  · rw [dif_neg h, if_neg h]

/-- The table of the kept tokens' groups. -/
def side (t : Fin 2048) (g : Fin 8) : ℕ := if Kept e t ∧ grp e t = g.val then 1 else 0

/-- The place as the tables give it. -/
theorem place_sum (b : Fin 8) (r : Fin 256) :
    ∑ g : Fin 8, (∑ k : Fin 256, (if k < r then 1 else 0) * side e (tok b k) g) * side e (tok b r) g
      = if Kept e (tok b r) then place e (tok b r) else 0 := by
  by_cases h : Kept e (tok b r)
  · rw [if_pos h, Finset.sum_eq_single (⟨grp e (tok b r), grp_lt e h⟩ : Fin 8)]
    · rw [show side e (tok b r) ⟨grp e (tok b r), grp_lt e h⟩ = 1 from if_pos ⟨h, rfl⟩, mul_one]
      have h1 : place e (tok b r) = ∑ t : Fin 2048, if t.val / 256 = b.val then (if t.val % 256 < r.val then side e t ⟨grp e (tok b r), grp_lt e h⟩ else 0) else 0 := by
        unfold place before
        rw [tok_div]
        refine Finset.sum_congr rfl fun t _ => ?_
        have hr := r.isLt
        by_cases q1 : t.val / 256 = b.val
        · rw [if_pos q1]
          by_cases q2 : t.val % 256 < r.val
          · rw [if_pos q2]
            have hlt : t < tok b r := show t.val < 256 * b.val + r.val by omega
            by_cases q3 : Kept e t ∧ grp e t = grp e (tok b r)
            · rw [if_pos ⟨hlt, q1, q3⟩]; exact (if_pos q3).symm
            · rw [if_neg (fun z => q3 z.2.2)]; exact (if_neg q3).symm
          · rw [if_neg q2, if_neg (fun z => by have z1 : t.val < 256 * b.val + r.val := z.1; omega)]
        · rw [if_neg q1, if_neg (fun z => q1 z.2.1)]
      rw [h1, ← sum_tok b (fun t => if t.val % 256 < r.val then side e t ⟨grp e (tok b r), grp_lt e h⟩ else 0)]
      refine Finset.sum_congr rfl fun k _ => ?_
      rw [tok_mod, ite_mul, one_mul, zero_mul]; rfl
    · intro g _ hg
      rw [show side e (tok b r) g = 0 from if_neg (fun q => hg (Fin.ext q.2.symm)), mul_zero]
    · exact fun q => absurd (Finset.mem_univ _) q
  · rw [if_neg h]
    refine Finset.sum_eq_zero fun g _ => ?_
    rw [show side e (tok b r) g = 0 from if_neg (fun q => h q.1), mul_zero]

/-- A kept token's place is below the number of its block's and group's kept tokens. -/
theorem place_lt (t : Fin 2048) (h : Kept e t) {b : Fin 8} (hb : t.val / 256 = b.val) :
    place e t < ∑ r : Fin 256, if Kept e (tok b r) ∧ grp e (tok b r) = grp e t then 1 else 0 := by
  rw [sum_tok b (fun s => if Kept e s ∧ grp e s = grp e t then 1 else 0)]
  unfold place before
  refine Finset.sum_lt_sum (fun s _ => ?_) ⟨t, Finset.mem_univ _, ?_⟩
  · by_cases q : s < t ∧ Fits e (t.val / 256) (grp e t) s
    · rw [if_pos q, if_pos (q.2.1.trans hb), if_pos q.2.2]
    · rw [if_neg q]; exact Nat.zero_le _
  · rw [if_neg (fun q => lt_irrefl _ q.1), if_pos hb, if_pos ⟨h, rfl⟩]; exact Nat.one_pos

end
end Cert.Tokens
end
-- ==== Proof.Reads.lean ====
/-
Reading the tensor operations at an index, on the extended reals: a column broadcast along rows, a table of zeros and
ones, products contracted on one axis, a row's sum, the conversion of a count to a word. The extents are variables.
-/
module

public import Idealize.ShloMosaic.Lib.MatmulPlain
public import Idealize.ShloMosaic.Lib.ValueIdx
public import Idealize.ShloMosaic.Lib.Routing.BitFacts
public import Idealize.ShloMosaic.Lib.Pipeline.Value

@[expose] public section

open scoped BigOperators
open Idealize.ShloMosaic Idealize.ShloMosaic.ValueIdx

namespace Cert.Reads

/-! ## Words -/

theorem ofBool_one (b : Bool) : BitVec.ofBool b = 1#1 ↔ b = true := by cases b <;> decide
theorem eq_one {w : ℕ} (x y : BitVec w) : IntOp.cmpi .eq x y = 1#1 ↔ x = y := by
  rw [IntOp.cmpi, ofBool_one]; exact beq_iff_eq
theorem ne_one {w : ℕ} (x y : BitVec w) : IntOp.cmpi .ne x y = 1#1 ↔ x ≠ y := by
  rw [IntOp.cmpi, ofBool_one]; exact bne_iff_ne
theorem slt_one {w : ℕ} (x y : BitVec w) : IntOp.cmpi .slt x y = 1#1 ↔ x.toInt < y.toInt := by
  rw [IntOp.cmpi, ofBool_one]; exact BitVec.slt_iff_toInt_lt
theorem sgt_one {w : ℕ} (x y : BitVec w) : IntOp.cmpi .sgt x y = 1#1 ↔ y.toInt < x.toInt := by
  rw [IntOp.cmpi, ofBool_one]; exact BitVec.slt_iff_toInt_lt
theorem sle_one {w : ℕ} (x y : BitVec w) : IntOp.cmpi .sle x y = 1#1 ↔ x.toInt ≤ y.toInt := by
  rw [IntOp.cmpi, ofBool_one]; exact BitVec.sle_iff_toInt_le
theorem sge_one {w : ℕ} (x y : BitVec w) : IntOp.cmpi .sge x y = 1#1 ↔ y.toInt ≤ x.toInt := by
  rw [IntOp.cmpi, ofBool_one]; exact BitVec.sle_iff_toInt_le
theorem and_one (x y : BitVec 1) : IntOp.andi x y = 1#1 ↔ x = 1#1 ∧ y = 1#1 := by
  rcases BitVec.eq_zero_or_eq_one x with h | h <;> rcases BitVec.eq_zero_or_eq_one y with k | k <;> subst h <;> subst k <;> decide

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- A word's signed value lies in its range and is its unsigned one or that less `2 ^ 32`. -/
theorem toInt_cases (x : BitVec 32) : (x.toNat < 2 ^ 31 ∧ x.toInt = x.toNat) ∨ (2 ^ 31 ≤ x.toNat ∧ x.toInt = (x.toNat : ℤ) - 2 ^ 32) := by
  rw [BitVec.toInt_eq_toNat_cond]
  by_cases h : 2 * x.toNat < 2 ^ 32
  · exact .inl ⟨by omega, if_pos h⟩
  · exact .inr ⟨by omega, by rw [if_neg h]; norm_num⟩

/-- The quotient rounded down, as a program writes it: the quotient rounded toward zero, less one when the dividend's sign
    is not the divisor's and the remainder is not zero. -/
def floorWord (x d : BitVec 32) : BitVec 32 :=
  Scalar.select (IntOp.andi (IntOp.cmpi .ne (IntOp.subi ((IntOp.cmpi .sgt x 0#32).setWidth 32) ((IntOp.cmpi .slt x 0#32).setWidth 32)) 1#32)
      (IntOp.cmpi .ne (IntOp.remsi .vector x d) 0#32))
    (IntOp.subi (IntOp.divsi .vector x d) 1#32) (IntOp.divsi .vector x d)

theorem bmod_small {n : ℤ} (h1 : -(2 ^ 31) ≤ n) (h2 : n < 2 ^ 31) : n.bmod (2 ^ 32) = n :=
  Int.bmod_eq_of_le (by norm_num; omega) (by norm_num; omega)

theorem floorWord_toInt (x : BitVec 32) (D : ℕ) (hD : D = 8 ∨ D = 256) : (floorWord x (BitVec.ofNat 32 D)).toInt = x.toInt / (D : ℤ) := by
  have hc : ¬IntOp.SDivCorner x (BitVec.ofNat 32 D) := by
    unfold IntOp.SDivCorner
    rcases hD with rfl | rfl
    · exact fun q => q.elim (by decide) (fun z => absurd z.2 (by decide))
    · exact fun q => q.elim (by decide) (fun z => absurd z.2 (by decide))
  have hd : (BitVec.ofNat 32 D).toInt = (D : ℤ) := toInt_ofNat (by omega)
  have hx := toInt_cases x
  have hlt : x.toNat < 2 ^ 32 := x.isLt
  have hq : (x.sdiv (BitVec.ofNat 32 D)).toInt = x.toInt.tdiv (D : ℤ) := by
    rw [BitVec.toInt_sdiv, hd]
    rcases le_or_gt 0 x.toInt with h | h
    · rw [Int.tdiv_eq_ediv_of_nonneg h]
      refine bmod_small ?_ ?_ <;> rcases hD with rfl | rfl <;> omega
    · have e : x.toInt.tdiv (D : ℤ) = -((-x.toInt) / (D : ℤ)) := by
        rw [← Int.tdiv_eq_ediv_of_nonneg (by omega), ← Int.neg_tdiv, neg_neg]
      rw [e]
      refine bmod_small ?_ ?_ <;> rcases hD with rfl | rfl <;> omega
  have hr : (x.srem (BitVec.ofNat 32 D)).toInt = x.toInt.tmod (D : ℤ) := by rw [BitVec.toInt_srem, hd]
  have hdiv : IntOp.divsi .vector x (BitVec.ofNat 32 D) = x.sdiv (BitVec.ofNat 32 D) := if_neg hc
  have hrem : IntOp.remsi .vector x (BitVec.ofNat 32 D) = x.srem (BitVec.ofNat 32 D) := if_neg hc
  unfold floorWord
  rw [hdiv, hrem]
  rcases le_or_gt 0 x.toInt with h | h
  · have hcond : ¬IntOp.andi (IntOp.cmpi .ne (IntOp.subi ((IntOp.cmpi .sgt x 0#32).setWidth 32) ((IntOp.cmpi .slt x 0#32).setWidth 32)) 1#32)
        (IntOp.cmpi .ne (x.srem (BitVec.ofNat 32 D)) 0#32) = 1#1 := by
      rw [and_one, ne_one, ne_one]
      rintro ⟨q1, q2⟩
      have hs : ¬IntOp.cmpi .slt x 0#32 = 1#1 := by rw [slt_one]; exact fun z => absurd z (by simpa using h)
      rw [eq_zero_of_ne_one hs] at q1
      have hp : ¬IntOp.cmpi .sgt x 0#32 = 1#1 := fun z => by rw [z] at q1; exact q1 (by decide)
      rw [sgt_one] at hp
      have h0 : x = 0#32 := BitVec.eq_of_toInt_eq (by rw [show (0#32).toInt = 0 by decide] at hp ⊢; omega)
      subst h0
      exact q2 (BitVec.eq_of_toInt_eq (by rw [hr, show (0#32).toInt = 0 by decide, Int.zero_tmod]))
    rw [eq_zero_of_ne_one hcond, select_zero, hq, Int.tdiv_eq_ediv_of_nonneg h]
  · have hneg : IntOp.cmpi .slt x 0#32 = 1#1 := (slt_one _ _).2 (by simpa using h)
    have hp : ¬IntOp.cmpi .sgt x 0#32 = 1#1 := by rw [sgt_one]; exact fun z => absurd z (by simpa using h.le)
    have e : x.toInt.tdiv (D : ℤ) = -((-x.toInt) / (D : ℤ)) := by
      rw [← Int.tdiv_eq_ediv_of_nonneg (by omega), ← Int.neg_tdiv, neg_neg]
    have em : x.toInt.tmod (D : ℤ) = -((-x.toInt) % (D : ℤ)) := by
      rw [← Int.tmod_eq_emod_of_nonneg (by omega), ← Int.neg_tmod, neg_neg]
    rw [hneg, eq_zero_of_ne_one hp]
    by_cases z : (-x.toInt) % (D : ℤ) = 0
    · have hcond : ¬IntOp.andi (IntOp.cmpi .ne (IntOp.subi ((0#1).setWidth 32) ((1#1).setWidth 32)) 1#32)
          (IntOp.cmpi .ne (x.srem (BitVec.ofNat 32 D)) 0#32) = 1#1 := by
        rw [and_one, ne_one, ne_one]
        rintro ⟨_, q2⟩
        exact q2 (BitVec.eq_of_toInt_eq (by rw [hr, em, z]; decide))
      rw [eq_zero_of_ne_one hcond, select_zero, hq, e]
      rcases hD with rfl | rfl <;> omega
    · have hcond : IntOp.andi (IntOp.cmpi .ne (IntOp.subi ((0#1).setWidth 32) ((1#1).setWidth 32)) 1#32)
          (IntOp.cmpi .ne (x.srem (BitVec.ofNat 32 D)) 0#32) = 1#1 := by
        rw [and_one, ne_one, ne_one]
        refine ⟨by decide, fun q => z ?_⟩
        have := congrArg BitVec.toInt q
        rw [hr, em, show (0#32).toInt = 0 by decide] at this
        omega
      rw [hcond, select_one]
      show (x.sdiv (BitVec.ofNat 32 D) - 1#32).toInt = _
      rw [BitVec.toInt_sub, hq, e, show (1#32).toInt = 1 by decide, bmod_small]
      all_goals rcases hD with rfl | rfl <;> omega

/-- The rounded-down quotient is a small word exactly when the unsigned one is it. -/
theorem floorWord_eq (x : BitVec 32) (D : ℕ) (hD : D = 8 ∨ D = 256) {g : ℕ} (hg : g < 2 ^ 16) :
    floorWord x (BitVec.ofNat 32 D) = BitVec.ofNat 32 g ↔ x.toNat < 2 ^ 31 ∧ x.toNat / D = g := by
  have hf := floorWord_toInt x D hD
  have hx := toInt_cases x
  have hlt : x.toNat < 2 ^ 32 := x.isLt
  have hgi := toInt_ofNat (n := g) (by omega)
  constructor
  · intro h
    rw [h, hgi] at hf
    rcases hD with rfl | rfl <;> constructor <;> omega
  · rintro ⟨h1, h2⟩
    refine BitVec.eq_of_toInt_eq ?_
    rw [hf, hgi]
    rcases hD with rfl | rfl <;> omega

/-! ## Zeros and ones on the extended reals -/

/-- A bit widened and converted is one or zero. -/
theorem bit_val (b : BitVec 1) : (FloatOps.sitofp (F := Ideal) .f32 (b.setWidth 32) : EReal) = ((if b = 1#1 then 1 else 0 : ℕ) : EReal) := by
  show (((b.setWidth 32).toInt : ℝ) : EReal) = _
  rcases BitVec.eq_zero_or_eq_one b with h | h
  · subst h
    rw [if_neg (by decide), show ((0#1).setWidth 32).toInt = 0 by decide]; simp
  · subst h
    rw [if_pos rfl, show ((1#1).setWidth 32).toInt = 1 by decide]; simp

theorem cast_mul (a b : ℕ) : (a : EReal) * (b : EReal) = ((a * b : ℕ) : EReal) := (EReal.natCast_mul a b).symm
theorem sum_cast {ι : Type*} (s : Finset ι) (f g : ι → ℕ) : ∑ k ∈ s, (f k : EReal) * (g k : EReal) = ((∑ k ∈ s, f k * g k : ℕ) : EReal) := by
  rw [Nat.cast_sum]; exact Finset.sum_congr rfl fun k _ => cast_mul _ _

theorem sum_nat {ι : Type*} [Fintype ι] (f g : ι → EReal) (f' g' : ι → ℕ) (hf : ∀ k, f k = (f' k : EReal)) (hg : ∀ k, g k = (g' k : EReal)) :
    ∑ k, f k * g k = ((∑ k, f' k * g' k : ℕ) : EReal) := by
  rw [← sum_cast]; exact Finset.sum_congr rfl fun k _ => by rw [hf, hg]

/-- A sum weighted by zeros and a single one takes that entry. -/
theorem sum_one {ι : Type*} [Fintype ι] (p : ι → Prop) [DecidablePred p] (f : ι → EReal) (i : ι) (hi : p i) (hu : ∀ j, p j → j = i) :
    ∑ j, ((if p j then 1 else 0 : ℕ) : EReal) * f j = f i := by
  rw [Finset.sum_eq_single i]
  · rw [if_pos hi, Nat.cast_one, one_mul]
  · intro j _ hj
    rw [if_neg (fun q => hj (hu j q)), Nat.cast_zero, zero_mul]
  · exact fun q => absurd (Finset.mem_univ _) q
theorem sum_none {ι : Type*} [Fintype ι] (p : ι → Prop) [DecidablePred p] (f : ι → EReal) (hn : ∀ j, ¬p j) :
    ∑ j, ((if p j then 1 else 0 : ℕ) : EReal) * f j = 0 :=
  Finset.sum_eq_zero fun j _ => by rw [if_neg (hn j), Nat.cast_zero, zero_mul]

/-- A count converted to a word. -/
theorem count_word {n : ℕ} (h : n < 2 ^ 31) : (FloatOps.fptosi (F := Ideal) (φ := .f32) 32 (n : EReal)) = BitVec.ofNat 32 n := by
  show BitVec.ofInt 32 (Ideal.toIntClamped _ _ _) = _
  rw [show (n : EReal) = ((n : ℝ) : EReal) from rfl, Ideal.toIntClamped_coe, if_pos (Nat.cast_nonneg n), Int.floor_natCast]
  rw [min_eq_right (by norm_num at *; omega), max_eq_right (by norm_num)]
  exact BitVec.ofInt_natCast 32 n

/-! ## Shapes -/

variable {α : Type}

/-- A column broadcast along its rows. -/
theorem col_apply {R C : ℕ} (v : (⟨2, ![R, 1]⟩ : Shape).Idx → α) (h : (⟨2, ![R, 1]⟩ : Shape).Broadcasts ⟨2, ![R, C]⟩) (r : Fin R) (c : Fin C) :
    broadcastTo ⟨2, ![R, C]⟩ v h (ix2 r c) = v (ix2 r 0) := by
  refine broadcastTo_apply v h (ix2 r c) (ix2 r 0) fun a => ?_
  match a with
  | ⟨0, _⟩ =>
    show r.val = if R = 1 then 0 else r.val
    split
    · have := r.isLt; omega
    · rfl
  | ⟨1, _⟩ => exact (if_pos (show (1 : ℕ) = 1 from rfl)).symm

/-- A row broadcast down its columns. -/
theorem row_apply {R C : ℕ} (v : (⟨2, ![1, C]⟩ : Shape).Idx → α) (h : (⟨2, ![1, C]⟩ : Shape).Broadcasts ⟨2, ![R, C]⟩) (r : Fin R) (c : Fin C) :
    broadcastTo ⟨2, ![R, C]⟩ v h (ix2 r c) = v (ix2 0 c) := by
  refine broadcastTo_apply v h (ix2 r c) (ix2 0 c) fun a => ?_
  match a with
  | ⟨0, _⟩ => exact (if_pos (show (1 : ℕ) = 1 from rfl)).symm
  | ⟨1, _⟩ =>
    show c.val = if C = 1 then 0 else c.val
    split
    · have := c.isLt; omega
    · rfl

theorem iota0_apply {R C : ℕ} (h) (r : Fin R) (c : Fin C) : iota .tc ⟨2, ![R, C]⟩ 32 [0] h (ix2 r c) = BitVec.ofNat 32 r.val :=
  iota_single_apply _ _ _ _ _ _
theorem iota1_apply {R C : ℕ} (h) (r : Fin R) (c : Fin C) : iota .tc ⟨2, ![R, C]⟩ 32 [1] h (ix2 r c) = BitVec.ofNat 32 c.val :=
  iota_single_apply _ _ _ _ _ _

/-- A vector made a column. -/
theorem column_apply {R : ℕ} (v : (⟨1, ![R]⟩ : Shape).Idx → α) (h) (r : Fin R) : shapeCast ⟨2, ![R, 1]⟩ v h (ix2 r 0) = v (ix1 r) := by
  refine shapeCast_apply v h _ _ ?_
  rw [Shape.rowMajor_val_one, Shape.rowMajor_val_two]
  show r.val = r.val * 1 + 0; omega

/-- A leading unit axis dropped, and added. -/
theorem dropUnit_apply {R C : ℕ} (v : (⟨3, ![1, R, C]⟩ : Shape).Idx → α) (h) (r : Fin R) (c : Fin C) :
    shapeCast ⟨2, ![R, C]⟩ v h (ix2 r c) = v (ix3 0 r c) := by
  refine shapeCast_apply v h _ _ ?_
  rw [Shape.rowMajor_val_three, Shape.rowMajor_val_two]
  show (0 * R + r.val) * C + c.val = r.val * C + c.val; rw [Nat.zero_mul, Nat.zero_add]
theorem addUnit_apply {R C : ℕ} (v : (⟨2, ![R, C]⟩ : Shape).Idx → α) (h) (r : Fin R) (c : Fin C) :
    shapeCast ⟨3, ![1, R, C]⟩ v h (ix3 0 r c) = v (ix2 r c) := by
  refine shapeCast_apply v h _ _ ?_
  rw [Shape.rowMajor_val_three, Shape.rowMajor_val_two]
  show r.val * C + c.val = (0 * R + r.val) * C + c.val; rw [Nat.zero_mul, Nat.zero_add]

/-- Rows cut out from a table. -/
theorem slice_apply {R S C : ℕ} (o : ℕ) (v : (⟨2, ![R, C]⟩ : Shape).Idx → α) (h : (⟨2, ![R, C]⟩ : Shape).Slices ![o, 0] ⟨2, ![S, C]⟩) (r : Fin S) (c : Fin C)
    (k : Fin R) (hk : k.val = o + r.val) : extractStridedSlice ⟨2, ![S, C]⟩ ![o, 0] v h (ix2 r c) = v (ix2 k c) := by
  refine extractStridedSlice_apply _ _ _ _ _ fun a => ?_
  match a with
  | ⟨0, _⟩ => exact hk
  | ⟨1, _⟩ => exact (Nat.zero_add _).symm

/-- A row's sum. -/
theorem rowSum_apply {R C : ℕ} (v : FVec Ideal ⟨2, ![R, C]⟩ .f32) (h : (⟨2, ![R, C]⟩ : Shape).Reduces [1] ⟨1, ![R]⟩) (hφ hacc) (r : Fin R) :
    multiReduction .add [1] ⟨1, ![R]⟩ v 0x00000000#32 h hφ hacc (ix1 r) = ∑ c : Fin C, v (ix2 r c) := by
  rw [Ideal.multiReduction_add_single]
  refine Finset.sum_congr rfl fun c _ => congrArg v ?_
  funext a; apply Fin.ext
  match a with
  | ⟨0, _⟩ => rfl
  | ⟨1, _⟩ => rfl

/-! ## Products -/

/-- The rows of the one by the columns of the other. -/
theorem rows_mul {M K N : ℕ} {φ₁ φ₂ : FTy} (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂) (r : Fin M) (c : Fin N) :
    matmul D prec lhs rhs (constant ⟨2, ![M, N]⟩ .f32 0x00000000#32) (ix2 r c) = ∑ k : Fin K, lhs (ix2 r k) * rhs (ix2 k c) := by
  subst hD
  simp only [matmul]
  rw [Ideal.matmul_plain_apply]
  show Ideal.ofBits .f32 0x00000000#32 + _ = _
  rw [Ideal.ofBits_zero_f32, zero_add]

/-- Products contracted on the first axis of both. -/
def colDims (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- The columns of the one by the columns of the other. -/
theorem cols_mul {M K N : ℕ} {φ₁ φ₂ : FTy} (wf : DotDims.WF ⟨2, ![K, M]⟩ ⟨2, ![K, N]⟩ ⟨2, ![M, N]⟩ [0] [0] [1] [1] [] [])
    (D : DotDims ⟨2, ![K, M]⟩ ⟨2, ![K, N]⟩ ⟨2, ![M, N]⟩) (hD : D = colDims M K N wf)
    (prec : Option ContractPrecision) (lhs : FVec Ideal ⟨2, ![K, M]⟩ φ₁) (rhs : FVec Ideal ⟨2, ![K, N]⟩ φ₂) (r : Fin M) (c : Fin N) :
    matmul D prec lhs rhs (constant ⟨2, ![M, N]⟩ .f32 0x00000000#32) (ix2 r c) = ∑ k : Fin K, lhs (ix2 k r) * rhs (ix2 k c) := by
  subst hD
  simp only [matmul]
  rw [Ideal.matmul_constant_zero_apply, ← Equiv.sum_comp (contrEquiv1 (colDims M K N wf) K rfl rfl).symm]
  refine Finset.sum_congr rfl fun k _ => ?_
  have hk := contrEquiv1_symm_val (colDims M K N wf) K rfl rfl k
  have el : (colDims M K N wf).lhsIdx (ix2 r c) ((contrEquiv1 (colDims M K N wf) K rfl rfl).symm k) = ix2 k r := by
    funext a; apply Fin.ext
    match a with
    | ⟨0, _⟩ => exact hk
    | ⟨1, _⟩ => rfl
  have er : (colDims M K N wf).rhsIdx (ix2 r c) ((contrEquiv1 (colDims M K N wf) K rfl rfl).symm k) = ix2 k c := by
    funext a; apply Fin.ext
    match a with
    | ⟨0, _⟩ => exact hk
    | ⟨1, _⟩ => rfl
  rw [el, er]

end Cert.Reads
end
-- ==== Proof.KernelIdealRanks.lean ====
/-
The kernel's words on the extended reals: each token's rank, whether it is kept, its source, its slot on a device and
its place in its block, all by the counts of `Tokens.lean`.
-/
module

public import proofs.«01_k».proof.Proof.KernelIdealContents
public import proofs.«01_k».proof.Proof.Tokens
public import proofs.«01_k».proof.Proof.Reads

@[expose] public section

open scoped BigOperators

namespace Cert.KernelIdealProof

open Cert.KernelIdeal Cert.KernelIdeal.Gen
open Idealize.ShloMosaic Idealize.ShloMosaic.ValueIdx
open Cert.Tokens Cert.Reads

/-- A table's entry from what its bit says. -/
theorem bit_nat (b : BitVec 1) (p : Prop) [Decidable p] (h : b = 1#1 ↔ p) :
    (FloatOps.sitofp (F := Ideal) .f32 (b.setWidth 32) : EReal) = ((if p then 1 else 0 : ℕ) : EReal) := by
  rw [bit_val]
  by_cases q : p
  · rw [if_pos q, if_pos (h.2 q)]
  · rw [if_neg q, if_neg (fun z => q (h.1 z))]

theorem word_eq : ∀ c : Dev nD, word c = BitVec.ofNat 32 c.val := by decide

theorem ofNat_inj {m n : ℕ} (hm : m < 2 ^ 32) (hn : n < 2 ^ 32) : BitVec.ofNat 32 m = BitVec.ofNat 32 n ↔ m = n := by
  rw [eq_ofNat_iff hn, BitVec.toNat_ofNat, Nat.mod_eq_of_lt hm]

theorem sgt_ofNat {m n : ℕ} (hm : m < 2 ^ 31) (hn : n < 2 ^ 31) : IntOp.cmpi .sgt (BitVec.ofNat 32 m) (BitVec.ofNat 32 n) = 1#1 ↔ n < m := by
  rw [sgt_one, toInt_ofNat hm, toInt_ofNat hn]; omega
theorem slt_ofNat {m n : ℕ} (hm : m < 2 ^ 31) (hn : n < 2 ^ 31) : IntOp.cmpi .slt (BitVec.ofNat 32 m) (BitVec.ofNat 32 n) = 1#1 ↔ m < n := by
  rw [slt_one, toInt_ofNat hm, toInt_ofNat hn]; omega

theorem tok_surj (t : Fin 2048) : ∃ b r, t = tok b r :=
  ⟨⟨t.val / 256, by have := t.isLt; omega⟩, ⟨t.val % 256, Nat.mod_lt _ (by omega)⟩, Fin.ext (by show t.val = 256 * (t.val / 256) + t.val % 256; omega)⟩

theorem pay3_self (v : Vec Ideal S2048x1 .i32) : k0_pay3 (F := Ideal) v = v := shapeCast_self _ _

/-- The table of earlier places of a block. -/
theorem earlier_apply (r k : Fin 256) : k0_pay2 (F := Ideal) (ix2 r k) = ((if k < r then 1 else 0 : ℕ) : EReal) := by
  refine bit_nat _ (k < r) ?_
  show IntOp.cmpi .sgt (iota .tc S256x256 32 [0] _ (ix2 r k)) (iota .tc S256x256 32 [1] _ (ix2 r k)) = 1#1 ↔ _
  rw [iota0_apply, iota1_apply, sgt_ofNat (by omega) (by omega)]
  rfl

/-- The table of blocks. -/
theorem block_apply (a : Fin 8) (t : Fin 2048) : k0_pay5 (F := Ideal) (ix2 a t) = ((if t.val / 256 = a.val then 1 else 0 : ℕ) : EReal) := by
  refine bit_nat _ (t.val / 256 = a.val) ?_
  show IntOp.cmpi .eq (floorWord (iota .tc S8x2048 32 [1] _ (ix2 a t)) (BitVec.ofNat 32 256)) (iota .tc S8x2048 32 [0] _ (ix2 a t)) = 1#1 ↔ _
  rw [iota0_apply, iota1_apply, eq_one, floorWord_eq _ 256 (.inr rfl) (by have := a.isLt; omega), BitVec.toNat_ofNat,
    Nat.mod_eq_of_lt (by have := t.isLt; omega)]
  exact ⟨fun q => q.2, fun q => ⟨by have := t.isLt; omega, q⟩⟩

/-- The table of earlier blocks. -/
theorem earlierBlock_apply (b a : Fin 8) (h0 h1) :
    (truncf .bf16 (sitofp (F := Ideal) .f32 (extui 32 (cmpi .sgt (iota .tc S8x8 32 [0] h0) (iota .tc S8x8 32 [1] h1)) natLt_1_32)) bitsLt_bf16_f32 : FVec Ideal S8x8 .bf16) (ix2 b a)
      = ((if a < b then 1 else 0 : ℕ) : EReal) := by
  refine bit_nat _ (a < b) ?_
  show IntOp.cmpi .sgt (iota .tc S8x8 32 [0] _ (ix2 b a)) (iota .tc S8x8 32 [1] _ (ix2 b a)) = 1#1 ↔ _
  rw [iota0_apply, iota1_apply, sgt_ofNat (by omega) (by omega)]
  rfl

section
variable (I : Ins Ideal) (c : Dev nD) (e : Fin 2048 → BitVec 32) (he : ∀ t, I.e c (ix2 t 0) = e t)
include he

/-- The one-hot table. -/
theorem hot_apply (t : Fin 2048) (j : Fin 64) : k0_pay4 (F := Ideal) (I.e c) (ix2 t j) = ((hot e t j : ℕ) : EReal) := by
  refine bit_nat _ (e t = BitVec.ofNat 32 j.val) ?_
  show IntOp.cmpi .eq (broadcastTo S2048x64 (k0_pay3 (F := Ideal) (I.e c)) _ (ix2 t j)) (iota .tc S2048x64 32 [1] _ (ix2 t j)) = 1#1 ↔ _
  rw [iota1_apply, col_apply, pay3_self, he, eq_one]

/-- The counts of the earlier blocks. -/
theorem pre_apply (b : Fin 8) (j : Fin 64) : pre I c (ix2 b j)
    = ((∑ a : Fin 8, (if a < b then 1 else 0) * ∑ t : Fin 2048, (if t.val / 256 = a.val then 1 else 0) * hot e t j : ℕ) : EReal) := by
  unfold pre k0_pay6
  refine (rows_mul (φ₁ := .bf16) (φ₂ := .bf16) dot_S8x8_S8x64_S8x64_1_0_0_1_n_n rfl none _ _ b j).trans (sum_nat _ _ _ _ (fun a => earlierBlock_apply b a _ _) fun a => ?_)
  exact (rows_mul (φ₁ := .bf16) (φ₂ := .bf16) dot_S8x2048_S2048x64_S8x64_1_0_0_1_n_n rfl none _ _ a j).trans
    (sum_nat _ _ _ _ (fun t => block_apply a t) fun t => hot_apply I c e he t j)

/-- The rank's word: a token of no expert has rank 0. -/
def rkw (e : Fin 2048 → BitVec 32) (t : Fin 2048) : ℕ := if (e t).toNat < 64 then rk e t else 0
omit he in
theorem rkw_le (t : Fin 2048) : rkw e t ≤ 2048 := by
  unfold rkw; split
  · exact rk_le e t
  · omega
omit he in
theorem kept_iff (t : Fin 2048) : Kept e t ↔ (e t).toNat < 64 ∧ rkw e t < 25 := by
  unfold rkw Kept
  constructor
  · rintro ⟨h1, h2⟩; rw [if_pos h1]; exact ⟨h1, h2⟩
  · rintro ⟨h1, h2⟩; rw [if_pos h1] at h2; exact ⟨h1, h2⟩

theorem rankB_apply (b : Dev nD) (r : Fin 256) :
    rankB (k0_pay4 (F := Ideal) (I.e c)) (pre I c) b (ix2 r 0) = BitVec.ofNat 32 (rkw e (tok b r)) := by
  unfold rankB
  rw [shapeCast_self]
  refine Eq.trans (congrArg (FloatOps.fptosi (F := Ideal) (φ := .f32) 32) ?_) (count_word (lt_of_le_of_lt (rkw_le e (tok b r)) (by norm_num)))
  refine (column_apply _ _ r).trans ((rowSum_apply _ _ _ _ r).trans ?_)
  unfold rkw
  rw [← rank_sum]
  refine sum_nat _ _ _ _ (fun j => ?_) fun j => ?_
  · rw [Nat.cast_add]
    refine congrArg₂ (· + ·) ?_ ?_
    · refine (rows_mul (φ₁ := .bf16) (φ₂ := .bf16) dot_S256x256_S256x64_S256x64_1_0_0_1_n_n rfl none _ _ r j).trans (sum_nat _ _ _ _ (fun k => earlier_apply r k) fun k => ?_)
      exact (slice_apply _ _ _ k j (tok b k) rfl).trans (hot_apply I c e he _ j)
    · exact (row_apply _ _ r j).trans ((slice_apply _ _ _ 0 j b rfl).trans (pre_apply I c e he b j))
  · exact (slice_apply _ _ (rows64_slices b) r j (tok b r) rfl).trans (hot_apply I c e he _ j)

omit he in
theorem blockOf_tok (b : Dev nD) (r : Fin 256) : blockOf (ix2 (tok b r) 0) = b := Fin.ext (tok_div b r)
omit he in
theorem withinOf_tok (b : Dev nD) (r : Fin 256) : withinOf (ix2 (tok b r) 0) = ix2 r 0 := by
  funext a
  match a with
  | (0 : Fin 2) => exact Fin.ext (tok_mod b r)
  | (1 : Fin 2) => rfl

theorem rank_apply (t : Fin 2048) : rank I c (ix2 t 0) = BitVec.ofNat 32 (rkw e t) := by
  obtain ⟨b, r, rfl⟩ := tok_surj t
  unfold rank
  rw [blockOf_tok, withinOf_tok]
  exact rankB_apply I c e he b r

theorem keptBit_iff (t : Fin 2048) : keptBit I c (ix2 t 0) = 1#1 ↔ rkw e t < 25 := by
  show IntOp.cmpi .slt (rank I c (ix2 t 0)) (BitVec.ofNat 32 25) = 1#1 ↔ _
  rw [rank_apply I c e he, slt_ofNat (lt_of_le_of_lt (rkw_le e t) (by norm_num)) (by norm_num)]

theorem src_apply (t : Fin 2048) : src I c (ix2 t 0) = floorWord (e t) (BitVec.ofNat 32 8) := by
  unfold src k0_pay22
  rw [shapeCast_self, pay3_self, ← he t]
  rfl

theorem src_iff (t : Fin 2048) {g : ℕ} (hg : g < 8) : src I c (ix2 t 0) = BitVec.ofNat 32 g ↔ (e t).toNat < 64 ∧ grp e t = g := by
  rw [src_apply I c e he, floorWord_eq _ 8 (.inl rfl) (by omega)]
  show _ ∧ (e t).toNat / 8 = g ↔ _ ∧ (e t).toNat / 8 = g
  constructor <;> rintro ⟨h1, h2⟩ <;> exact ⟨by omega, h2⟩

theorem side_apply (t : Fin 2048) (g : Fin 8) : s8 I c (ix2 t g) = ((side e t g : ℕ) : EReal) := by
  unfold s8 k0_pay20
  rw [shapeCast_self]
  refine bit_nat _ (Kept e t ∧ grp e t = g.val) ?_
  show IntOp.andi (IntOp.cmpi .eq (broadcastTo S2048x8 _ _ (ix2 t g)) (iota .tc S2048x8 32 [1] _ (ix2 t g))) (broadcastTo S2048x8 (keptBit I c) _ (ix2 t g)) = 1#1 ↔ _
  rw [col_apply, col_apply, iota1_apply, and_one, keptBit_iff I c e he, eq_one]
  have hs : src I c (ix2 t 0) = k0_pay19 (k0_pay3 (F := Ideal) (I.e c)) 8#32 (k0_pay17 (k0_pay3 (F := Ideal) (I.e c)))
      (k0_pay18 (k0_pay3 (F := Ideal) (I.e c))) pos8 neg8 (ix2 t 0) := by unfold src k0_pay22; rw [shapeCast_self]
  rw [← hs, src_iff I c e he t g.isLt, kept_iff]
  tauto

theorem kept_word (t : Fin 2048) : IntOp.cmpi .ne (kept I c (ix2 t 0)) 0#32 = 1#1 ↔ rkw e t < 25 := by
  unfold kept k0_pay21
  rw [shapeCast_self, ne_one, ← keptBit_iff I c e he]
  show (keptBit I c (ix2 t 0)).setWidth 32 ≠ 0#32 ↔ _
  rcases BitVec.eq_zero_or_eq_one (keptBit I c (ix2 t 0)) with h | h <;> rw [h] <;> decide

/-- Slot `i` of the device is the token's when the token is kept and its expert and rank are the slot's. -/
theorem slot_iff (t : Fin 2048) {i : ℕ} (hi : i < 256) :
    slot I c (ix2 t 0) = BitVec.ofNat 32 i ↔ Kept e t ∧ (e t).toNat = 8 * c.val + i / 32 ∧ rk e t = i % 32 := by
  show Scalar.select (IntOp.andi (IntOp.andi (IntOp.cmpi .sge (IntOp.subi (k0_pay3 (F := Ideal) (I.e c) (ix2 t 0)) (Scalar.muli (word c) 8#32)) 0#32)
      (IntOp.cmpi .slt (IntOp.subi (k0_pay3 (F := Ideal) (I.e c) (ix2 t 0)) (Scalar.muli (word c) 8#32)) 8#32)) (keptBit I c (ix2 t 0)))
    (IntOp.addi (IntOp.muli (IntOp.subi (k0_pay3 (F := Ideal) (I.e c) (ix2 t 0)) (Scalar.muli (word c) 8#32)) 32#32) (rank I c (ix2 t 0))) 4294967295#32 = _ ↔ _
  have hc : c.val < 8 := c.isLt
  have hw : Scalar.muli (word c) 8#32 = BitVec.ofNat 32 (8 * c.val) := by
    rw [word_eq]; show BitVec.ofNat 32 c.val * BitVec.ofNat 32 8 = _
    rw [← BitVec.ofNat_mul, Nat.mul_comm]
  rw [hw, pay3_self, he, rank_apply I c e he]
  have hle : (IntOp.subi (e t) (BitVec.ofNat 32 (8 * c.val))).toNat = (2 ^ 32 - 8 * c.val + (e t).toNat) % 2 ^ 32 := by
    show (e t - BitVec.ofNat 32 (8 * c.val)).toNat = _
    rw [BitVec.toNat_sub, BitVec.toNat_ofNat, Nat.mod_eq_of_lt (show 8 * c.val < 2 ^ 32 by omega)]
  generalize IntOp.subi (e t) (BitVec.ofNat 32 (8 * c.val)) = le at hle
  have hlt : (e t).toNat < 2 ^ 32 := (e t).isLt
  have hll : le.toNat < 2 ^ 32 := le.isLt
  have hx := toInt_cases le
  have hr := rkw_le e t
  have hcond : IntOp.andi (IntOp.andi (IntOp.cmpi .sge le 0#32) (IntOp.cmpi .slt le 8#32)) (keptBit I c (ix2 t 0)) = 1#1
      ↔ le.toNat < 8 ∧ rkw e t < 25 := by
    rw [and_one, and_one, keptBit_iff I c e he, sge_one, slt_one, show (0#32).toInt = 0 by decide, show (8#32).toInt = 8 by decide]
    constructor
    · rintro ⟨⟨h1, h2⟩, h3⟩; exact ⟨by omega, h3⟩
    · rintro ⟨h1, h3⟩; exact ⟨⟨by omega, by omega⟩, h3⟩
  rw [eq_ofNat_iff (by omega)]
  by_cases h : le.toNat < 8 ∧ rkw e t < 25
  · rw [hcond.2 h, select_one]
    have hv : (IntOp.addi (IntOp.muli le 32#32) (BitVec.ofNat 32 (rkw e t))).toNat = le.toNat * 32 + rkw e t := by
      show (le * 32#32 + BitVec.ofNat 32 (rkw e t)).toNat = _
      rw [BitVec.toNat_add, BitVec.toNat_mul, BitVec.toNat_ofNat, BitVec.toNat_ofNat]
      omega
    rw [hv]
    have h64 : (e t).toNat < 64 := by omega
    have hk : Kept e t := (kept_iff e t).2 ⟨h64, h.2⟩
    have hrk : rkw e t = rk e t := if_pos h64
    rw [hrk] at h ⊢
    constructor
    · intro q; exact ⟨hk, by omega, by omega⟩
    · rintro ⟨_, q1, q2⟩; omega
  · rw [eq_zero_of_ne_one (fun q => h (hcond.1 q)), select_zero]
    constructor
    · intro q; rw [show (4294967295#32).toNat = 4294967295 by decide] at q; omega
    · rintro ⟨q0, q1, q2⟩
      exact absurd ⟨by omega, ((kept_iff e t).1 q0).2⟩ h

theorem place_apply (b : Dev nD) (r : Fin 256) :
    posB I c b (ix2 r 0) = BitVec.ofNat 32 (if Kept e (tok b r) then place e (tok b r) else 0) := by
  have hb : (if Kept e (tok b r) then place e (tok b r) else 0) ≤ 2048 := by
    split
    · exact place_le e _
    · omega
  unfold posB k0_pay35
  refine Eq.trans (congrArg (FloatOps.fptosi (F := Ideal) (φ := .f32) 32) ?_) (count_word (lt_of_le_of_lt hb (by norm_num)))
  refine (column_apply _ _ r).trans ((rowSum_apply _ _ _ _ r).trans ?_)
  rw [← place_sum]
  have hrow : ∀ (k : Fin 256) (g : Fin 8), rows8 b (s8 I c) (ix2 k g) = ((side e (tok b k) g : ℕ) : EReal) := fun k g => by
    rw [← side_apply I c e he]
    refine congrArg (s8 I c) ?_
    funext a; apply Fin.ext
    match a with
    | (0 : Fin 2) => show 256 * b.val + 1 * k.val = 256 * b.val + k.val; omega
    | (1 : Fin 2) => show 0 + 1 * g.val = g.val; omega
  refine sum_nat _ _ _ _ (fun g => ?_) fun g => hrow r g
  exact (rows_mul (φ₁ := .bf16) (φ₂ := .bf16) dot_S256x256_S256x8_S256x8_1_0_0_1_n_n rfl none _ _ r g).trans (sum_nat _ _ _ _ (fun k => earlier_apply r k) fun k => hrow k g)

/-- The bit of row `r` of block `b` and place `k` for the source `g`: the token is kept, of that group, at that place. -/
theorem bit_iff (b : Dev nD) (r : Fin 256) (k : Fin 64) {g : ℕ} (hg : g < 8) :
    IntOp.andi (IntOp.andi (IntOp.cmpi .eq (posB I c b (ix2 r 0)) (BitVec.ofNat 32 k.val)) (IntOp.cmpi .eq (src I c (ix2 (tok b r) 0)) (BitVec.ofNat 32 g)))
      (IntOp.andi (IntOp.cmpi .ne (kept I c (ix2 (tok b r) 0)) 0#32) (IntOp.cmpi .slt (posB I c b (ix2 r 0)) 64#32)) = 1#1
    ↔ Kept e (tok b r) ∧ grp e (tok b r) = g ∧ place e (tok b r) = k.val := by
  have hk := k.isLt
  have hp := place_le e (tok b r)
  rw [and_one, and_one, and_one, eq_one, eq_one, kept_word I c e he, src_iff I c e he _ hg, place_apply I c e he]
  constructor
  · rintro ⟨⟨h1, h2, h3⟩, h4, _⟩
    have hK : Kept e (tok b r) := (kept_iff e _).2 ⟨h2, h4⟩
    rw [if_pos hK, ofNat_inj (by omega) (by omega)] at h1
    exact ⟨hK, h3, h1⟩
  · rintro ⟨h1, h2, h3⟩
    rw [if_pos h1, h3]
    exact ⟨⟨rfl, h1.1, h2⟩, ((kept_iff e _).1 h1).2, (slt_ofNat (by omega) (by norm_num)).2 hk⟩

end
end Cert.KernelIdealProof
end
-- ==== Proof.KernelIdealValue.lean ====
/-
The kernel's result on the extended reals: a kept token's row is the token times its expert's weights, any other row is
zero. The rows travel through the slots of the device that holds the expert and through the places of the token's block.
-/
module

public import proofs.«01_k».proof.Proof.KernelIdealRanks

@[expose] public section

open scoped BigOperators

namespace Cert.KernelIdealProof

open Cert.KernelIdeal Cert.KernelIdeal.Gen
open Idealize.ShloMosaic Idealize.ShloMosaic.ValueIdx
open Cert.Tokens Cert.Reads

/-- A kept token's slot on its device. -/
def rowOf (e : Fin 2048 → BitVec 32) (t : Fin 2048) (h : Kept e t) : Fin 256 :=
  ⟨(e t).toNat % 8 * 32 + rk e t, by have := h.2; omega⟩
/-- Its expert among the device's eight, and the device. -/
def localOf (e : Fin 2048 → BitVec 32) (t : Fin 2048) : Fin 8 := ⟨(e t).toNat % 8, Nat.mod_lt _ (by omega)⟩
def homeOf (e : Fin 2048 → BitVec 32) (t : Fin 2048) (h : Kept e t) : Dev nD := ⟨grp e t, grp_lt e h⟩
theorem homeOf_val (e : Fin 2048 → BitVec 32) (t : Fin 2048) (h : Kept e t) : grp e t = (homeOf e t h).val := rfl

section
variable (I : Ins Ideal) (c : Dev nD) (e : Fin 2048 → BitVec 32) (he : ∀ t, I.e c (ix2 t 0) = e t)
include he

theorem gathered_apply (t : Fin 2048) (h : Kept e t) (hg : grp e t = c.val) (d : Fin 1024) :
    xg I c (ix2 (rowOf e t h) d) = I.x c (ix2 t d) := by
  unfold xg k0_pay24
  rw [shapeCast_self]
  refine (cols_mul dot_S2048x256_S2048x1024_S256x1024_0_0_1_1_n_n_wf dot_S2048x256_S2048x1024_S256x1024_0_0_1_1_n_n rfl none _ _ (rowOf e t h) d).trans ?_
  have hx : ∀ s, k0_pay1 (F := Ideal) (I.x c) s = I.x c s := fun s => by unfold k0_pay1; rw [shapeCast_self, shapeCast_self]
  have hgr : (e t).toNat / 8 = c.val := hg
  have hrk := h.2
  refine Eq.trans (Finset.sum_congr rfl fun s _ => congrArg₂ (· * ·)
    (bit_nat _ (slot I c (ix2 s 0) = BitVec.ofNat 32 (rowOf e t h).val) ?_) (hx _)) (sum_one _ (fun s => I.x c (ix2 s d)) t ?_ ?_)
  · show IntOp.cmpi .eq (broadcastTo S2048x256 (slot I c) _ (ix2 s (rowOf e t h))) (iota .tc S2048x256 32 [1] _ (ix2 s (rowOf e t h))) = 1#1 ↔ _
    rw [col_apply, iota1_apply, eq_one]
  · rw [slot_iff I c e he t (rowOf e t h).isLt]
    refine ⟨h, ?_, ?_⟩
    · show _ = 8 * c.val + ((e t).toNat % 8 * 32 + rk e t) / 32; omega
    · show _ = ((e t).toNat % 8 * 32 + rk e t) % 32; omega
  · intro s hs
    rw [slot_iff I c e he s (rowOf e t h).isLt] at hs
    obtain ⟨_, h1, h2⟩ := hs
    have h1' : (e s).toNat = 8 * c.val + ((e t).toNat % 8 * 32 + rk e t) / 32 := h1
    have h2' : rk e s = ((e t).toNat % 8 * 32 + rk e t) % 32 := h2
    exact rk_inj e (BitVec.eq_of_toNat_eq (by omega)) (by omega)

omit he in
theorem products_apply (i : Fin 256) (l : Fin 8) (hl : i.val / 32 = l.val) (n : Fin 1024) :
    ys I c (ix2 i n) = ∑ d : Fin 1024, xg I c (ix2 i d) * I.w c (ix3 l d n) := by
  have hi : i.val / 32 < 8 := by have := i.isLt; clear hl; omega
  have hl' : l = ⟨i.val / 32, hi⟩ := Fin.ext hl.symm
  clear hl
  subst hl'
  have hs : slotRow (ix2 i n) = ix2 (⟨i.val % 32, Nat.mod_lt _ (by omega)⟩ : Fin 32) n := by
    funext a
    match a with
    | (0 : Fin 2) => rfl
    | (1 : Fin 2) => rfl
  have hu : ys I c (ix2 i n) = ysB I c ⟨i.val / 32, hi⟩ (ix2 (⟨i.val % 32, Nat.mod_lt _ (by omega)⟩ : Fin 32) n) := by
    rw [← hs]; rfl
  rw [hu]
  unfold ysB k0_pay25
  rw [shapeCast_self]
  refine (rows_mul (φ₁ := .f32) (φ₂ := .bf16) dot_S32x1024_S1024x1024_S32x1024_1_0_0_1_n_n rfl none _ _ _ n).trans ?_
  refine Finset.sum_congr rfl fun d _ => congrArg₂ (· * ·) ?_ ((dropUnit_apply _ _ d n).trans ?_)
  · refine congrArg (xg I c) ?_
    funext a; apply Fin.ext
    match a with
    | (0 : Fin 2) => show 32 * (i.val / 32) + 1 * (i.val % 32) = i.val; omega
    | (1 : Fin 2) => show 0 + 1 * d.val = d.val; omega
  · refine congrArg (I.w c) ?_
    funext a; apply Fin.ext
    match a with
    | (0 : Fin 3) => show i.val / 32 + 1 * 0 = i.val / 32; omega
    | (1 : Fin 3) => show 0 + 1 * d.val = d.val; omega
    | (2 : Fin 3) => show 0 + 1 * n.val = n.val; omega

/-- A kept token's row, on the device of its expert. -/
theorem back_apply (b : Dev nD) (r : Fin 256) (h : Kept e (tok b r)) (hg : grp e (tok b r) = c.val) (n : Fin 1024) :
    blk I c b (ix2 r n) = ∑ d : Fin 1024, I.x c (ix2 (tok b r) d) * I.w c (ix3 (localOf e (tok b r)) d n) := by
  have hgr : (e (tok b r)).toNat / 8 = c.val := hg
  have hrk := h.2
  have hsl : ∀ i : Fin 256, slot I c (ix2 (tok b r) 0) = BitVec.ofNat 32 i.val ↔ i = rowOf e (tok b r) h := fun i => by
    rw [slot_iff I c e he _ i.isLt, Fin.ext_iff]
    show _ ↔ i.val = (e (tok b r)).toNat % 8 * 32 + rk e (tok b r)
    constructor
    · rintro ⟨_, h1, h2⟩; omega
    · intro q; exact ⟨h, by omega, by omega⟩
  unfold blk
  refine (rows_mul (φ₁ := .bf16) (φ₂ := .bf16) dot_S256x256_S256x1024_S256x1024_1_0_0_1_n_n rfl none _ _ r n).trans ?_
  refine Eq.trans (Finset.sum_congr rfl fun i _ => congrArg (· * _)
    (bit_nat _ (slot I c (ix2 (tok b r) 0) = BitVec.ofNat 32 i.val) ?_)) ((sum_one _ (fun i => ys I c (ix2 i n)) (rowOf e (tok b r) h) ((hsl _).2 rfl) (fun j q => (hsl j).1 q)).trans ?_)
  · show IntOp.cmpi .eq (broadcastTo S256x256 _ _ (ix2 r i)) (iota .tc S256x256 32 [1] _ (ix2 r i)) = 1#1 ↔ _
    rw [col_apply, iota1_apply, eq_one, slice_apply _ _ (rows1_slices b) r 0 (tok b r) rfl]
  · rw [products_apply I c _ (localOf e (tok b r)) (by show ((e (tok b r)).toNat % 8 * 32 + rk e (tok b r)) / 32 = (e (tok b r)).toNat % 8; omega)]
    exact Finset.sum_congr rfl fun d _ => by rw [gathered_apply I c e he _ h hg]

omit he in
theorem rows1_apply {α : Type} (b : Dev nD) (f : S2048x1.Idx → α) (r : Fin 256) : rows1 b f (ix2 r 0) = f (ix2 (tok b r) 0) := by
  refine congrArg f ?_
  funext a; apply Fin.ext
  match a with
  | (0 : Fin 2) => show 256 * b.val + 1 * r.val = 256 * b.val + r.val; omega
  | (1 : Fin 2) => rfl

/-- The bit as it stands in the tables of places. -/
theorem table_iff (b : Dev nD) (s : BitVec 32) {g : ℕ} (hg : g < 8) (hs : s = BitVec.ofNat 32 g) (r : Fin 256) (k : Fin 64) (h0 h1 h2) :
    andi (andi (cmpi .eq (broadcastTo S256x64 (posB I c b) h0) iota64) (broadcastTo S256x64 (cmpi .eq (rows1 b (src I c)) (broadcast S256x1 s)) h1))
      (broadcastTo S256x64 (k0_pay71 (F := Ideal) (posB I c b) (rows1 b (kept I c))) h2) (ix2 r k) = 1#1
    ↔ Kept e (tok b r) ∧ grp e (tok b r) = g ∧ place e (tok b r) = k.val := by
  subst hs
  rw [← bit_iff I c e he b r k hg]
  show IntOp.andi (IntOp.andi (IntOp.cmpi .eq (broadcastTo S256x64 (posB I c b) h0 (ix2 r k)) (iota .tc S256x64 32 [1] _ (ix2 r k)))
    (broadcastTo S256x64 _ h1 (ix2 r k))) (broadcastTo S256x64 _ h2 (ix2 r k)) = 1#1 ↔ _
  rw [col_apply, col_apply, col_apply, iota1_apply]
  show IntOp.andi (IntOp.andi (IntOp.cmpi .eq (posB I c b (ix2 r 0)) _) (IntOp.cmpi .eq (rows1 b (src I c) (ix2 r 0)) _))
    (IntOp.andi (IntOp.cmpi .ne (rows1 b (kept I c) (ix2 r 0)) 0#32) (IntOp.cmpi .slt (posB I c b (ix2 r 0)) 64#32)) = 1#1 ↔ _
  rw [rows1_apply, rows1_apply]
  exact Iff.rfl

/-- The row at a kept token's place in the block its expert's device computes is the token's row. -/
theorem sent_apply (b : Dev nD) (r : Fin 256) (h : Kept e (tok b r)) (hg : grp e (tok b r) = c.val) (k : Fin 64)
    (hk : place e (tok b r) = k.val) (n : Fin 1024) : pair I c b (ix3 0 k n) = blk I c b (ix2 r n) := by
  unfold pair k0_pay38
  refine (addUnit_apply _ _ k n).trans ?_
  refine (cols_mul dot_S256x64_S256x1024_S64x1024_0_0_1_1_n_n_wf dot_S256x64_S256x1024_S64x1024_0_0_1_1_n_n rfl none _ _ k n).trans ?_
  refine Eq.trans (Finset.sum_congr rfl fun s _ => congrArg (· * _)
    (bit_nat _ (Kept e (tok b s) ∧ grp e (tok b s) = c.val ∧ place e (tok b s) = k.val)
      (table_iff I c e he b (word c) c.isLt (word_eq c) s k _ _ _))) (sum_one _ (fun s => blk I c b (ix2 s n)) r ⟨h, hg, hk⟩ ?_)
  rintro s ⟨h1, h2, h3⟩
  exact tok_inj (place_inj e (by rw [tok_div, tok_div]) (h2.trans hg.symm) h1 h (h3.trans hk.symm))

theorem part_apply (s : BitVec 32) {g : ℕ} (hg : g < 8) (hs : s = BitVec.ofNat 32 g) (v : S1x64x1024.Idx → Elt Ideal .bf16) (r : Fin 256) (n : Fin 1024) :
    part I c s v (ix2 r n)
      = ∑ k : Fin 64, ((if Kept e (tok c r) ∧ grp e (tok c r) = g ∧ place e (tok c r) = k.val then 1 else 0 : ℕ) : EReal) * v (ix3 0 k n) := by
  unfold part
  refine (rows_mul (φ₁ := .bf16) (φ₂ := .bf16) dot_S256x64_S64x1024_S256x1024_1_0_0_1_n_n rfl none _ _ r n).trans ?_
  exact Finset.sum_congr rfl fun k _ => congrArg₂ (· * ·) (bit_nat _ _ (table_iff I c e he c s hg hs r k _ _ _)) (dropUnit_apply _ _ k n)

end

section
variable (I : Ins Ideal) (c : Dev nD) (e : Fin 2048 → BitVec 32) (he : ∀ a t, I.e a (ix2 t 0) = e t)
include he

theorem out_sum (r : Fin 256) (n : Fin 1024) : out I c (ix2 r n)
    = ∑ g : Fin 8, ∑ k : Fin 64, ((if Kept e (tok c r) ∧ grp e (tok c r) = g.val ∧ place e (tok c r) = k.val then 1 else 0 : ℕ) : EReal) * pair I g c (ix3 0 k n) := by
  have hp := fun (g : Fin 8) (s : BitVec 32) (hs : s = BitVec.ofNat 32 g.val) => part_apply I c e (he c) s g.isLt hs (pair I g c) r n
  rw [Fin.sum_univ_eight, ← hp 0 0#32 rfl, ← hp 1 1#32 rfl, ← hp 2 2#32 rfl, ← hp 3 3#32 rfl, ← hp 4 4#32 rfl, ← hp 5 5#32 rfl, ← hp 6 6#32 rfl, ← hp 7 7#32 rfl]
  show Ideal.ofBits .f32 0x00000000#32 + part I c 0#32 (pair I 0 c) (ix2 r n) + _ + _ + _ + _ + _ + _ + _ = _
  rw [Ideal.ofBits_zero_f32, zero_add]

/-- A kept token's row. -/
theorem out_kept (r : Fin 256) (n : Fin 1024) (h : Kept e (tok c r)) (hp : place e (tok c r) < 64) : out I c (ix2 r n)
    = ∑ d : Fin 1024, I.x (homeOf e (tok c r) h) (ix2 (tok c r) d) * I.w (homeOf e (tok c r) h) (ix3 (localOf e (tok c r)) d n) := by
  rw [out_sum I c e he, Finset.sum_eq_single (homeOf e (tok c r) h)]
  · rw [sum_one (fun k : Fin 64 => Kept e (tok c r) ∧ grp e (tok c r) = (homeOf e (tok c r) h).val ∧ place e (tok c r) = k.val) _ ⟨place e (tok c r), hp⟩ ⟨h, rfl, rfl⟩
      (fun j q => Fin.ext q.2.2.symm)]
    rw [sent_apply I (homeOf e (tok c r) h) e (he _) c r h (homeOf_val e _ h) ⟨place e (tok c r), hp⟩ rfl, back_apply I (homeOf e (tok c r) h) e (he _) c r h (homeOf_val e _ h)]
  · intro g _ hg
    exact sum_none _ _ fun k q => hg (Fin.ext q.2.1.symm)
  · exact fun q => absurd (Finset.mem_univ _) q

/-- Any other row. -/
theorem out_other (r : Fin 256) (n : Fin 1024) (h : ¬Kept e (tok c r)) : out I c (ix2 r n) = 0 := by
  rw [out_sum I c e he]
  exact Finset.sum_eq_zero fun g _ => sum_none _ _ fun k q => h q.1

end
end Cert.KernelIdealProof
end
-- ==== Proof.KeptTokens.lean ====
/-
The kept tokens as plain mathematics writes them: a running sum down each column of the one-hot table, compared with 25.
From it the reference's result, and the bound the precondition states: of each block and group at most 64 are kept.
-/
module

public import proofs.«01_k».proof.Pre_pairs_fit_KernelIdeal
public import proofs.«01_k».proof.Proof.Gen.ReferenceIdeal.Read
public import proofs.«01_k».proof.Proof.Tokens
public import proofs.«01_k».proof.Proof.Reads
public import Idealize.ShloMosaic.Lib.Routing.OpsOne
public import Idealize.ShloMosaic.Lib.IndicatorCount
public import Idealize.ShloMosaic.Lib.ReduceAll

@[expose] public section

open scoped BigOperators

namespace Cert.KeptTokens

open Idealize.ShloMosaic Idealize.ShloMosaic.ValueIdx
open Cert.Tokens Cert.Reads

theorem sum_words {ι : Type*} (s : Finset ι) (f : ι → ℕ) : ∑ i ∈ s, BitVec.ofNat 32 (f i) = BitVec.ofNat 32 (∑ i ∈ s, f i) := by
  classical
  induction s using Finset.induction_on with
  | empty => rfl
  | insert a s ha ih => rw [Finset.sum_insert ha, Finset.sum_insert ha, ih, BitVec.ofNat_add]

theorem bit_word (b : BitVec 1) (p : Prop) [Decidable p] (h : b = 1#1 ↔ p) : b.setWidth 32 = BitVec.ofNat 32 (if p then 1 else 0) := by
  rcases BitVec.eq_zero_or_eq_one b with q | q
  · rw [if_neg (fun z => by rw [h.2 z] at q; exact absurd q (by decide)), q]; rfl
  · rw [if_pos (h.1 q), q]; rfl

section
variable (e : Fin 2048 → BitVec 32)

/-- Up to and including a token, its expert has been named once more than before it. -/
theorem upto_eq (t : Fin 2048) : (∑ s : Fin 2048, if s ≤ t then (if e s = e t then 1 else 0) else 0) = rk e t + 1 := by
  have h1 : (1 : ℕ) = ∑ s : Fin 2048, if s = t then 1 else 0 := by rw [Finset.sum_ite_eq' Finset.univ t, if_pos (Finset.mem_univ _)]
  conv_rhs => enter [2]; rw [h1]
  unfold rk before
  rw [← Finset.sum_add_distrib]
  refine Finset.sum_congr rfl fun s _ => ?_
  rcases lt_trichotomy s t with q | q | q
  · rw [if_pos q.le, if_neg q.ne, add_zero]
    by_cases z : e s = e t
    · rw [if_pos z, if_pos ⟨q, z⟩]
    · rw [if_neg z, if_neg (fun y => z y.2)]
  · subst q; rw [if_pos le_rfl, if_pos rfl, if_pos rfl, if_neg (fun y => lt_irrefl _ y.1)]
  · rw [if_neg (not_le.2 q), if_neg (fun y => lt_asymm q y.1), if_neg q.ne']

/-- The bit of a token and an expert: the token's expert is it, and the running count is at most 25. -/
theorem running_iff (oh : IVec ⟨2, ![2048, 64]⟩ 1) (hoh : ∀ (t : Fin 2048) (j : Fin 64), oh (ix2 t j) = 1#1 ↔ e t = BitVec.ofNat 32 j.val)
    (x : IVec ⟨2, ![2048, 64]⟩ 32) (hx : ∀ i, x i = (oh i).setWidth 32) (init : IVec ⟨0, ![]⟩ 32) (hinit : init ix0 = 0#32) (h) (hu) (t : Fin 2048) (j : Fin 64) :
    IntOp.andi (oh (ix2 t j)) (IntOp.cmpi .sle (Host.reduceWindow IntOp.addi ![2048, 1] ![1, 1] ![2047, 0] ![0, 0] x init h hu (ix2 t j)) 25#32) = 1#1
      ↔ Kept e t ∧ (e t).toNat = j.val := by
  have hj := j.isLt
  rw [and_one, hoh, sle_one, Routing.cumsum_rows_sum (A := 2048) (Am1 := 2047) (N := 64) rfl x init hinit h hu t j]
  have hs : (∑ s : Fin 2048, if s ≤ t then x (ix2 s j) else 0) = BitVec.ofNat 32 (∑ s : Fin 2048, if s ≤ t then hot e s j else 0) := by
    rw [← sum_words]
    refine Finset.sum_congr rfl fun s _ => ?_
    by_cases q : s ≤ t
    · rw [if_pos q, if_pos q, hx]; exact bit_word _ _ (hoh s j)
    · rw [if_neg q, if_neg q]; rfl
  rw [hs]
  by_cases q : e t = BitVec.ofNat 32 j.val
  · have hv : (e t).toNat = j.val := (hot_iff e t j).1 q
    have hu : (∑ s : Fin 2048, if s ≤ t then hot e s j else 0) = rk e t + 1 := by
      rw [← upto_eq]; unfold hot; rw [q]
    have hr := rk_le e t
    rw [hu, toInt_ofNat (by omega), show (25#32).toInt = 25 by decide]
    unfold Kept
    constructor
    · rintro ⟨_, h2⟩; exact ⟨⟨by omega, by omega⟩, hv⟩
    · rintro ⟨⟨_, h2⟩, _⟩; exact ⟨q, by omega⟩
  · constructor
    · exact fun z => absurd z.1 q
    · exact fun z => absurd ((hot_iff e t j).2 z.2) q

end

/-! ## The reference -/

section
open Cert.ReferenceIdeal Cert.ReferenceIdeal.Gen Cert.ReferenceIdeal.Read

variable (x0 : (⟨S2048x1024, .bf16⟩ : BufTy).Contents (Elt Ideal)) (x2 : (⟨S2048x1, .i32⟩ : BufTy).Contents (Elt Ideal))
  (x3 : (⟨S64x1024x1024, .bf16⟩ : BufTy).Contents (Elt Ideal)) (e : Fin 2048 → BitVec 32) (he : ∀ t, x2 (ix2 t 0) = e t)
include he

theorem ref_bit (t : Fin 2048) (j : Fin 64) : val_main_v10 (F := Ideal) x2 (ix2 t j) = 1#1 ↔ Kept e t ∧ (e t).toNat = j.val := by
  rw [val_main_v10_apply, val_main_v9_apply, val_main_v8_apply, val_main_c_apply]
  unfold val_main_v7
  refine running_iff e (val_main_v5 (F := Ideal) x2) (fun s k => ?_) _ (fun i => val_main_v6_apply x2 i) _ ?_ _ _ t j
  · rw [val_main_v5_apply, val_main_v3_apply, val_main_v4_apply, val_main_v2_apply, val_main_v1_apply, eq_one, ← he s]
    have hi : idx_main_v3 (ix2 s k) = ix2 s 0 := by
      funext a
      match a with
      | (0 : Fin 2) => rfl
      | (1 : Fin 2) => rfl
    rw [hi]
  · rw [val_main_call0_call0_v0_apply, val_main_call0_call0_c_apply]

theorem ref_term (t : Fin 2048) (n : Fin 1024) (j : Fin 64) : val_main_v12 (F := Ideal) x0 x2 x3 (idx_main_v13 (ix2 t n) j)
    = if Kept e t ∧ (e t).toNat = j.val then ∑ d : Fin 1024, x0 (ix2 t d) * x3 (ix3 j d n) else 0 := by
  rw [val_main_v12_apply, val_main_call1_v1_apply, val_main_v11_apply]
  have hi : idx_main_v11 (idx_main_call1_v1 (idx_main_v13 (ix2 t n) j)) = ix2 t j := by
    funext a
    match a with
    | (0 : Fin 2) => rfl
    | (1 : Fin 2) => rfl
  rw [hi]
  by_cases q : Kept e t ∧ (e t).toNat = j.val
  · rw [if_pos q, (ref_bit x2 e he t j).2 q, select_one, val_main_v0_apply]
    refine Finset.sum_congr rfl fun d _ => congrArg₂ (· * ·) (congrArg x0 ?_) (congrArg x3 ?_)
    · funext a
      match a with
      | (0 : Fin 2) => rfl
      | (1 : Fin 2) => rfl
    · funext a
      match a with
      | (0 : Fin 3) => rfl
      | (1 : Fin 3) => rfl
      | (2 : Fin 3) => rfl
  · rw [if_neg q, eq_zero_of_ne_one (fun z => q ((ref_bit x2 e he t j).1 z)), select_zero, val_main_call1_v2_apply, val_main_call1_v0_apply, val_main_cst_apply]
    exact Ideal.ofBits_zero_f32

theorem ref_sum (t : Fin 2048) (n : Fin 1024) : val_main_v13 (F := Ideal) x0 x2 x3 (ix2 t n)
    = ∑ j : Fin 64, if Kept e t ∧ (e t).toNat = j.val then ∑ d : Fin 1024, x0 (ix2 t d) * x3 (ix3 j d n) else 0 := by
  rw [val_main_v13_apply, val_main_cst_0_apply, show (FloatOps.ofBits (F := Ideal) .f32 0x00000000#32 : EReal) = 0 from Ideal.ofBits_zero_f32, zero_add]
  exact Finset.sum_congr rfl fun j _ => ref_term x0 x2 x3 e he t n j

/-- A kept token's row is the token times its expert's weights. -/
theorem ref_kept (t : Fin 2048) (n : Fin 1024) (h : Kept e t) (j : Fin 64) (hj : (e t).toNat = j.val) :
    val_main_v13 (F := Ideal) x0 x2 x3 (ix2 t n) = ∑ d : Fin 1024, x0 (ix2 t d) * x3 (ix3 j d n) := by
  rw [ref_sum x0 x2 x3 e he, Finset.sum_eq_single j]
  · rw [if_pos ⟨h, hj⟩]
  · intro k _ hk
    rw [if_neg (fun q => hk (Fin.ext (q.2.symm.trans hj)))]
  · exact fun q => absurd (Finset.mem_univ _) q

/-- Any other row is zero. -/
theorem ref_other (t : Fin 2048) (n : Fin 1024) (h : ¬Kept e t) : val_main_v13 (F := Ideal) x0 x2 x3 (ix2 t n) = 0 := by
  rw [ref_sum x0 x2 x3 e he]
  exact Finset.sum_eq_zero fun j _ => if_neg fun q => h q.1
end

/-! ## The precondition -/

section
open Cert.Pre_pairs_fit_KernelIdeal Cert.Pre_pairs_fit_KernelIdeal.Facts

/-- A sum of bits over two axes, at most 64, counts at most 64 of any tokens its entries tell apart. -/
theorem count_le (D : IVec ⟨4, ![8, 256, 8, 8]⟩ 1) (x : IVec ⟨4, ![8, 256, 8, 8]⟩ 32) (hx : ∀ i, x i = (D i).setWidth 32)
    (init : IVec ⟨0, ![]⟩ 32) (hu : 0 < (⟨0, ![]⟩ : Shape).numel) (hinit : init (Shape.Idx.first hu) = 0#32)
    (h : (⟨4, ![8, 256, 8, 8]⟩ : Shape).ReducesTo [1, 3] ⟨2, ![8, 8]⟩) (b g : Fin 8)
    (hle : IntOp.cmpi .sle (Host.reduce IntOp.addi x init h hu (ix2 b g)) 64#32 = 1#1)
    (P : Fin 256 → Prop) [DecidablePred P] (l : Fin 256 → Fin 8) (hP : ∀ r, P r → D (ix4 b r g (l r)) = 1#1) :
    (∑ r : Fin 256, if P r then 1 else 0) ≤ 64 := by
  rw [Host.reduce_eq_fold, hinit] at hle
  have hfold : (Finset.univ.filter fun i => h.drop i = ix2 b g).fold IntOp.addi 0#32 x
      = BitVec.ofNat 32 ((Finset.univ.filter fun i => h.drop i = ix2 b g).filter fun i => D i = 1#1).card := by
    rw [show x = fun i => (D i).setWidth 32 from funext hx]
    exact IndicatorCount.fold_addi_setWidth_eq_card D _
  rw [hfold, sle_one] at hle
  set S := (Finset.univ.filter fun i => h.drop i = ix2 b g).filter fun i => D i = 1#1 with hS
  have hcard : S.card ≤ 131072 := by
    refine (Finset.card_le_univ S).trans (le_of_eq ?_)
    rw [← Fintype.card_congr (Shape.rowMajor (⟨4, ![8, 256, 8, 8]⟩ : Shape)).symm, Fintype.card_fin]
    rfl
  rw [toInt_ofNat (by omega), show (64#32).toInt = 64 by decide] at hle
  have hsub : (Finset.univ.filter P).card ≤ S.card := by
    refine Finset.card_le_card_of_injOn (fun r => ix4 b r g (l r)) (fun r hr => ?_) (fun r _ s _ q => ?_)
    · have hr' : P r := (Finset.mem_filter.1 hr).2
      refine Finset.mem_filter.2 ⟨Finset.mem_filter.2 ⟨Finset.mem_univ _, ?_⟩, hP r hr'⟩
      funext a
      match a with
      | (0 : Fin 2) => exact Fin.ext (Shape.ReducesTo.drop_apply_val_of_eq h (ix4 b r g (l r)) 0 0 (by decide) (by decide))
      | (1 : Fin 2) => exact Fin.ext (Shape.ReducesTo.drop_apply_val_of_eq h (ix4 b r g (l r)) 1 2 (by decide) (by decide))
    · exact congrFun q (1 : Fin 4)
  have hsum : (∑ r : Fin 256, if P r then 1 else 0) = (Finset.univ.filter P).card := (Finset.card_filter _ _).symm
  omega

variable [Cert.Pre_pairs_fit_KernelIdeal.Facts]

/-- Reshaping the table of tokens and experts to blocks, rows, groups and the experts of a group. -/
theorem reshape_apply (x : IVec ⟨2, ![2048, 64]⟩ 1) (h : (⟨2, ![2048, 64]⟩ : Shape).ShapeCasts ⟨4, ![8, 256, 8, 8]⟩) (b : Fin 8) (r : Fin 256) (g l : Fin 8) (j : Fin 64)
    (hj : j.val = 8 * g.val + l.val) : shapeCast (⟨4, ![8, 256, 8, 8]⟩ : Shape) x h (ix4 b r g l) = x (ix2 (tok b r) j) := by
  refine shapeCast_apply x h _ _ ?_
  rw [Shape.rowMajor_val_four, Shape.rowMajor_val_two]
  show (tok b r).val * 64 + j.val = ((b.val * 256 + r.val) * 8 + g.val) * 8 + l.val
  unfold tok
  rw [hj]
  show (256 * b.val + r.val) * 64 + _ = _
  omega

/-- The table of tokens and experts, -/
noncomputable def hotBits (x2 : IVec S2048x1 32) : IVec S2048x64 1 :=
  cmpi .eq (broadcastInDim S2048x64 ![0, 1] bcast_S2048x1_S2048x64_0_1 x2) (broadcastInDim S2048x64 ![0, 1] bcast_S1x64_S2048x64_0_1 (broadcastInDim S1x64 ![1] bcast_S64_S1x64_1 (iotaInDim S64 32 0)))

/-- and of it the entries whose running count is at most 25. -/
noncomputable def keptBits (x2 : IVec S2048x1 32) : IVec S2048x64 1 :=
  andi (hotBits x2) (cmpi .sle (Host.reduceWindow IntOp.addi ![2048, 1] ![1, 1] ![2047, 0] ![0, 0] (extui 32 (hotBits x2) natLt_1_32) (broadcastInDim S_ ![] bcast_S_S_ (constantI S_ 32 0#32)) reduceWindows_S2048x64_S2048x64_w2048s1p2047_0_w1s1p0_0 h_S_)
    (broadcastInDim S2048x64 ![] bcast_S_S2048x64 (constantI S_ 32 25#32)))

theorem fn_eq (x0 : FVec Ideal S2048x1024 .bf16) (x1 : FVec Ideal S1024x64 .bf16) (x2 : IVec S2048x1 32) (x3 : FVec Ideal S8x1024x1024 .bf16) :
    fn (F := Ideal) x0 x1 x2 x3 = Host.reduce IntOp.andi (cmpi .sle (Host.reduce IntOp.addi (shapeCast S8x256x8x8 (extui 32 (keptBits x2) natLt_1_32) shapeCasts_S2048x64_S8x256x8x8) (constantI S_ 32 0#32) reducesTo_S8x256x8x8_S8x8_d1_3 h_S_)
      (broadcastInDim S8x8 ![] bcast_S_S8x8 (constantI S_ 32 64#32))) (constantI S_ 1 1#1) reducesTo_S8x8_S_d0_1 h_S_ := rfl

section
variable (x2 : IVec S2048x1 32) (e : Fin 2048 → BitVec 32) (he : ∀ t, x2 (ix2 t 0) = e t)
include he

theorem hotBits_iff (t : Fin 2048) (j : Fin 64) : hotBits x2 (ix2 t j) = 1#1 ↔ e t = BitVec.ofNat 32 j.val := by
  unfold hotBits
  rw [← he t]
  refine (eq_one _ _).trans ?_
  have h1 : broadcastInDim S2048x64 ![0, 1] bcast_S2048x1_S2048x64_0_1 x2 (ix2 t j) = x2 (ix2 t 0) := by
    refine broadcastInDim_apply _ _ _ _ _ fun a => ?_
    match a with
    | (0 : Fin 2) => rfl
    | (1 : Fin 2) => rfl
  have h2 : broadcastInDim S2048x64 ![0, 1] bcast_S1x64_S2048x64_0_1 (broadcastInDim S1x64 ![1] bcast_S64_S1x64_1 (iotaInDim S64 32 0)) (ix2 t j) = BitVec.ofNat 32 j.val := by
    have h3 : broadcastInDim S2048x64 ![0, 1] bcast_S1x64_S2048x64_0_1 (broadcastInDim S1x64 ![1] bcast_S64_S1x64_1 (iotaInDim S64 32 0)) (ix2 t j)
        = broadcastInDim S1x64 ![1] bcast_S64_S1x64_1 (iotaInDim S64 32 0) (ix2 0 j) := by
      refine broadcastInDim_apply _ _ _ _ _ fun a => ?_
      match a with
      | (0 : Fin 2) => rfl
      | (1 : Fin 2) => rfl
    have h4 : broadcastInDim S1x64 ![1] bcast_S64_S1x64_1 (iotaInDim S64 32 0) (ix2 0 j) = iotaInDim S64 32 0 (ix1 j) := by
      refine broadcastInDim_apply _ _ _ _ _ fun a => ?_
      match a with
      | (0 : Fin 1) => rfl
    rw [h3, h4]
    rfl
  rw [h1, h2]

theorem keptBits_iff (t : Fin 2048) (j : Fin 64) : keptBits x2 (ix2 t j) = 1#1 ↔ Kept e t ∧ (e t).toNat = j.val := by
  unfold keptBits
  exact running_iff e (hotBits x2) (hotBits_iff x2 e he) (extui 32 (hotBits x2) natLt_1_32) (fun _ => rfl) _ rfl _ _ t j
end

/-- The precondition: of each block of 256 tokens, at most 64 are kept for one group of 8 experts. -/
theorem pre_le (x0 : FVec Ideal S2048x1024 .bf16) (x1 : FVec Ideal S1024x64 .bf16) (x2 : IVec S2048x1 32) (x3 : FVec Ideal S8x1024x1024 .bf16)
    (e : Fin 2048 → BitVec 32) (he : ∀ t, x2 (ix2 t 0) = e t) (hp : fn (F := Ideal) x0 x1 x2 x3 = fun _ => 1#1) (b g : Fin 8) :
    (∑ r : Fin 256, if Kept e (tok b r) ∧ grp e (tok b r) = g.val then 1 else 0) ≤ 64 := by
  rw [fn_eq] at hp
  have h14 := Host.reduce_andi_all _ _ _ _ ix0 (congrFun hp ix0) (ix2 b g)
  refine count_le (shapeCast S8x256x8x8 (keptBits x2) shapeCasts_S2048x64_S8x256x8x8) (shapeCast S8x256x8x8 (extui 32 (keptBits x2) natLt_1_32) shapeCasts_S2048x64_S8x256x8x8)
    (fun _ => rfl) (constantI S_ 32 0#32) h_S_ rfl reducesTo_S8x256x8x8_S8x8_d1_3 b g h14 _ (fun r => ⟨(e (tok b r)).toNat % 8, Nat.mod_lt _ (by decide)⟩) (fun r hr => ?_)
  obtain ⟨hk, hg⟩ := hr
  unfold grp at hg
  have hlt : (e (tok b r)).toNat < 64 := hk.1
  have hj : (e (tok b r)).toNat = 8 * g.val + (e (tok b r)).toNat % 8 := by omega
  rw [reshape_apply (keptBits x2) _ b r g _ ⟨(e (tok b r)).toNat, hlt⟩ hj]
  exact (keptBits_iff x2 e he _ _).2 ⟨hk, rfl⟩

end
end Cert.KeptTokens
end
-- ==== Proof.Agree.lean ====
/-
The kernel's result on each device is that device's block of the reference's result.
-/
module

public import proofs.«01_k».proof.Proof.KernelIdealLaunch
public import proofs.«01_k».proof.Proof.KernelIdealValue
public import proofs.«01_k».proof.Proof.KeptTokens
public import proofs.«01_k».proof.Proof.Gen.Pre_pairs_fit_KernelIdeal
public import Idealize.ShloMosaic.Lib.Layout

@[expose] public section

open scoped BigOperators

namespace Cert.KernelIdealProof

open Idealize.ShloMosaic Idealize.ShloMosaic.ValueIdx
open Cert.KernelIdeal
open Cert.Tokens

/-- A device's rows of the whole result are its block of tokens. -/
theorem rows_block (c : Fin 8) (v : (⟨2, ![2048, 1024]⟩ : Shape).Idx → EReal) (r : Fin 256) (n : Fin 1024) :
    Layout.block ⟨2, ![256, 1024]⟩ ⟨2, ![2048, 1024]⟩ 0 8 c v (by decide) (ix2 r n) = v (ix2 (tok c r) n) := by
  rw [Layout.block_apply]
  refine congrArg v (funext fun a => ?_)
  match a with
  | (0 : Fin 2) =>
    refine Fin.ext ?_
    show c.val * 256 + r.val = (tok c r).val
    unfold tok
    show c.val * 256 + r.val = 256 * c.val + r.val
    omega
  | (1 : Fin 2) => rfl

/-- A device's experts are its eight of the whole weights. -/
theorem experts_block (c : Fin 8) (v : (⟨3, ![64, 1024, 1024]⟩ : Shape).Idx → EReal) (l : Fin 8) (d n : Fin 1024) (j : Fin 64) (hj : j.val = c.val * 8 + l.val) :
    Layout.block ⟨3, ![8, 1024, 1024]⟩ ⟨3, ![64, 1024, 1024]⟩ 0 8 c v (by decide) (ix3 l d n) = v (ix3 j d n) := by
  rw [Layout.block_apply]
  refine congrArg v (funext fun a => ?_)
  match a with
  | (0 : Fin 3) => exact Fin.ext hj.symm
  | (1 : Fin 3) => rfl
  | (2 : Fin 3) => rfl

theorem out_agrees (I : Ins Ideal) (c : Dev nD) (x0 : (⟨2, ![2048, 1024]⟩ : Shape).Idx → EReal) (x2 : IVec ⟨2, ![2048, 1]⟩ 32)
    (x3 : (⟨3, ![64, 1024, 1024]⟩ : Shape).Idx → EReal) (hx : ∀ d, I.x d = x0) (he : ∀ d, I.e d = x2)
    (hw : ∀ d : Dev nD, I.w d = Layout.block ⟨3, ![8, 1024, 1024]⟩ ⟨3, ![64, 1024, 1024]⟩ 0 8 d x3 (by decide))
    (hle : ∀ b g : Fin 8, (∑ r : Fin 256, if Kept (fun t => x2 (ix2 t 0)) (tok b r) ∧ grp (fun t => x2 (ix2 t 0)) (tok b r) = g.val then 1 else 0) ≤ 64) :
    out I c = Layout.block ⟨2, ![256, 1024]⟩ ⟨2, ![2048, 1024]⟩ 0 8 c (Cert.ReferenceIdeal.Read.val_main_v13 (F := Ideal) x0 x2 x3) (by decide) := by
  funext i
  obtain ⟨r, n, rfl⟩ : ∃ (r : Fin 256) (n : Fin 1024), i = ix2 r n := ⟨i 0, i 1, eq_ix2 i⟩
  rw [rows_block]
  have hI : ∀ a t, I.e a (ix2 t 0) = x2 (ix2 t 0) := fun a t => by rw [he a]
  generalize hE : (fun t => x2 (ix2 t 0)) = e at hle
  have hE' : ∀ t, x2 (ix2 t 0) = e t := fun t => congrFun hE t
  have hI' : ∀ a t, I.e a (ix2 t 0) = e t := fun a t => (hI a t).trans (hE' t)
  by_cases h : Kept e (tok c r)
  · have hlt : (e (tok c r)).toNat < 64 := h.1
    have hp : place e (tok c r) < 64 :=
      lt_of_lt_of_le (place_lt e (tok c r) h (tok_div c r)) (hle c ⟨grp e (tok c r), grp_lt e h⟩)
    rw [out_kept I c e hI' r n h hp, Cert.KeptTokens.ref_kept x0 x2 x3 e hE' (tok c r) n h ⟨(e (tok c r)).toNat, hlt⟩ rfl]
    refine Finset.sum_congr rfl fun d _ => ?_
    have hj : (e (tok c r)).toNat = (homeOf e (tok c r) h).val * 8 + (localOf e (tok c r)).val := by
      rw [← homeOf_val]
      unfold grp localOf
      show _ = (e (tok c r)).toNat / 8 * 8 + (e (tok c r)).toNat % 8
      omega
    rw [hx, hw, experts_block _ x3 _ d n ⟨(e (tok c r)).toNat, hlt⟩ hj]
  · rw [out_other I c e hI' r n h, Cert.KeptTokens.ref_other x0 x2 x3 e hE' (tok c r) n h]

end Cert.KernelIdealProof
end
-- ==== Proof.lean ====
/- The proof of the certificate's claim: the kernel's run as printed and read at the extended reals, the reference's run, and that their results agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_pairs_fit_KernelIdeal
public import proofs.«01_k».proof.Proof.Gen.Pre_pairs_fit_ReferenceIdeal
public import proofs.«01_k».proof.Proof.KernelLaunch
public import proofs.«01_k».proof.Proof.KernelIdealLaunch
public import proofs.«01_k».proof.Proof.Agree
public import Idealize.ShloMosaic.Adequacy
public import Idealize.ShloMosaic.Init

@[expose] public section

noncomputable section

namespace Cert.Proof

open Idealize.ShloMosaic Idealize.SL.Sem

/-- The kernel as printed: it ends, its arguments as they were, every semaphore at zero. -/
theorem frame_kernel : Cert.quiescent_Kernel := fun m g _ =>
  (θ_run Cert.Kernel.defs _ _).mono (fun _ h => ⟨fun c => ⟨(h.1 c).1, (h.1 c).2.1, (h.1 c).2.2.1, (h.1 c).2.2.2.1⟩, h.2⟩)
    (Cert.KernelProof.run_out (F := Bits) m g)

/-- The same of the kernel read at the extended reals, -/
theorem frame_ideal : Cert.quiescent_KernelIdeal := fun m g _ =>
  (θ_run Cert.KernelIdeal.defs _ _).mono (fun _ h => ⟨fun c => ⟨(h.1 c).1, (h.1 c).2.1, (h.1 c).2.2.1, (h.1 c).2.2.2.1⟩, h.2⟩)
    (Cert.KernelIdealProof.run_out (F := Ideal) m g)

/-- and of the reference, which has no semaphore. -/
theorem frame_reference : Cert.quiescent_ReferenceIdeal := fun m g _ =>
  (θ_run Cert.ReferenceIdeal.defs _ _).mono (fun r h => ⟨fun c => ⟨(h c).2.1, (h c).2.2.1, (h c).2.2.2.1, (h c).2.2.2.2⟩,
      Idealize.ShloMosaic.sem_eq_zero_of_no_sems (by decide) r.2⟩)
    (Cert.ReferenceIdeal.Value.run (F := Ideal) m g)

/-- Asking more of the inputs changes neither. -/
theorem frame_ideal_pre : Cert.quiescent_KernelIdeal_pre_pairs_fit_KernelIdeal := fun m g _ => frame_ideal m g trivial
theorem frame_reference_pre : Cert.quiescent_ReferenceIdeal_pre_pairs_fit_ReferenceIdeal := fun m g _ => frame_reference m g trivial

/-- On inputs whose kept pairs fit, every device ends with its block of the reference's result. -/
theorem agrees : Cert.algebraic_KernelIdeal_ReferenceIdeal_pre_pairs_fit_KernelIdeal := fun m g m' g' hpre hargs => by
  refine ⟨Cert.ReferenceIdeal.Read.val_main_v13 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (Cert.KernelIdealProof.run_out (F := Ideal) m g)
    obtain ⟨h0, h1, h2, h3, hv⟩ := h.1 c
    refine ⟨hv.trans (Cert.KernelIdealProof.out_agrees (Cert.KernelIdealProof.ins m) c _ _ _
      (fun d => (Cert.KernelIdealProof.ins_x m d).trans (hargs d).1) (fun d => (Cert.KernelIdealProof.ins_e m d).trans (hargs d).2.2.1)
      (fun d => (Cert.KernelIdealProof.ins_w m d).trans (hargs d).2.2.2) ?_), h0, h1, h2, h3⟩
    exact fun b k => Cert.KeptTokens.pre_le _ _ _ _ _ (fun t => congrFun (hargs 0).2.2.1 (ValueIdx.ix2 t 0)) (hpre 0) b k
  · refine (θ_run Cert.ReferenceIdeal.defs _ _).mono (fun r h => ?_) (Cert.ReferenceIdeal.Value.run (F := Ideal) m' g')
    exact ⟨((h 0).1).trans (Cert.ReferenceIdeal.Read.val_main_v13_eq _ _ _), (h 0).2⟩

theorem claim : Cert.Claim :=
  ⟨Cert.Kernel.Gen.facts, Cert.KernelIdeal.Gen.facts, Cert.ReferenceIdeal.Gen.facts, Cert.Pre_pairs_fit_KernelIdeal.Gen.facts, Cert.Pre_pairs_fit_ReferenceIdeal.Gen.facts,
    frame_kernel, frame_ideal, frame_ideal_pre, frame_reference, frame_reference_pre, trivial, agrees⟩

end Cert.Proof

end
